-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_no_target_between_edges [hPre_no_target_between_edges : Cert.Pre_no_target_between_edges.Facts] (m : (ℓ : Loc Cert.KernelIdeal.nD Cert.KernelIdeal.τ Cert.KernelIdeal.sig) → Buf (Elt Ideal) ℓ) : Prop :=
  ∀ c : Dev Cert.KernelIdeal.nD,
    (Cert.Pre_no_target_between_edges.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_no_target_between_edges [hPre_no_target_between_edges : Cert.Pre_no_target_between_edges.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_no_target_between_edges.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_no_target_between_edges [hKernelIdeal : Cert.KernelIdeal.Facts] [hPre_no_target_between_edges : Cert.Pre_no_target_between_edges.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_no_target_between_edges m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_no_target_between_edges [hReferenceIdeal : Cert.ReferenceIdeal.Facts] [hPre_no_target_between_edges : Cert.Pre_no_target_between_edges.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_no_target_between_edges m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_no_target_between_edges [hKernelIdeal : Cert.KernelIdeal.Facts] [hReferenceIdeal : Cert.ReferenceIdeal.Facts] [hPre_no_target_between_edges : Cert.Pre_no_target_between_edges.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_no_target_between_edges m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_no_target_between_edges : Cert.Pre_no_target_between_edges.Facts),
    quiescent_Kernel (hKernel := hKernel)
    ∧ quiescent_KernelIdeal (hKernelIdeal := hKernelIdeal)
    ∧ quiescent_KernelIdeal_pre_no_target_between_edges (hKernelIdeal := hKernelIdeal) (hPre_no_target_between_edges := hPre_no_target_between_edges)
    ∧ quiescent_ReferenceIdeal (hReferenceIdeal := hReferenceIdeal)
    ∧ quiescent_ReferenceIdeal_pre_no_target_between_edges (hReferenceIdeal := hReferenceIdeal) (hPre_no_target_between_edges := hPre_no_target_between_edges)
    ∧ preserves_Kernel_KernelIdeal
    ∧ algebraic_KernelIdeal_ReferenceIdeal_pre_no_target_between_edges (hKernelIdeal := hKernelIdeal) (hReferenceIdeal := hReferenceIdeal) (hPre_no_target_between_edges := hPre_no_target_between_edges)
-- ==== Pre_no_target_between_edges.lean ====
abbrev S8388608x1 : Shape := ⟨2, ![8388608, 1]⟩
abbrev S11 : Shape := ⟨1, ![11]⟩
abbrev S10 : Shape := ⟨1, ![10]⟩
abbrev S1 : Shape := ⟨1, ![1]⟩
abbrev S_ : Shape := ⟨0, ![]⟩
abbrev S1x11 : Shape := ⟨2, ![1, 11]⟩
abbrev S8388608x11 : Shape := ⟨2, ![8388608, 11]⟩

class Facts : Prop where
  slices_S11_S1_0 : S11.Slices ![0] S1
  shapeCasts_S1_S_ : S1.ShapeCasts S_
  slices_S11_S1_10 : S11.Slices ![10] S1
  bcast_S_S11 : S_.BroadcastsInDim S11 (![] : Fin 0 → Fin S11.rank)
  bcast_S11_S1x11_1 : S11.BroadcastsInDim S1x11 (![1] : Fin 1 → Fin S1x11.rank)
  bcast_S8388608x1_S8388608x11_0_1 : S8388608x1.BroadcastsInDim S8388608x11 (![0, 1] : Fin 2 → Fin S8388608x11.rank)
  bcast_S1x11_S8388608x11_0_1 : S1x11.BroadcastsInDim S8388608x11 (![0, 1] : Fin 2 → Fin S8388608x11.rank)
  bcast_S_S8388608x11 : S_.BroadcastsInDim S8388608x11 (![] : Fin 0 → Fin S8388608x11.rank)

variable [Facts]

def fn_part1 {F : FTy → Type} [FloatOps F] (main_v3 : FVec F S_ .f32) (main_v19 : IVec S8388608x11 1) (main_v20 : IVec S_ 1) (main_v21 : IVec S_ 1) : IVec S8388608x11 1 :=
  let main_v22 : IVec S_ 1 := andi main_v20 main_v21
  let main_cst_1 : FVec F S_ .f32 := constant S_ .f32 0x7F800000#32
  let main_v23 : IVec S_ 1 := cmpf .olt main_v3 main_cst_1
  let main_v24 : IVec S_ 1 := andi main_v22 main_v23
  let main_v25 : IVec S8388608x11 1 := broadcastInDim S8388608x11 ![] bcast_S_S8388608x11 main_v24
  let main_v26 : IVec S8388608x11 1 := andi main_v25 main_v19
  main_v26

def fn {F : FTy → Type} [FloatOps F] (main_arg0 : FVec F S8388608x1 .f32) (main_arg1 : FVec F S8388608x1 .f32) (main_arg2 : FVec F S11 .f32) (main_arg3 : FVec F S10 .f32) : IVec S8388608x11 1 :=
  let main_v0 : FVec F S1 .f32 := (extractStridedSlice S1 ![0] · slices_S11_S1_0) main_arg2
  let main_v1 : FVec F S_ .f32 := shapeCast S_ main_v0 shapeCasts_S1_S_
  let main_v2 : FVec F S1 .f32 := (extractStridedSlice S1 ![10] · slices_S11_S1_10) main_arg2
  let main_v3 : FVec F S_ .f32 := shapeCast S_ main_v2 shapeCasts_S1_S_
  let main_v4 : FVec F S11 .f32 := sitofp .f32 (iotaInDim S11 32 0)
  let main_v5 : FVec F S_ .f32 := subf main_v3 main_v1
  let main_cst : FVec F S_ .f32 := constant S_ .f32 0x41200000#32
  let main_v6 : FVec F S_ .f32 := Host.divf main_v5 main_cst
  let main_v7 : FVec F S11 .f32 := broadcastInDim S11 ![] bcast_S_S11 main_v6
  let main_v8 : FVec F S11 .f32 := mulf main_v4 main_v7
  let main_v9 : FVec F S11 .f32 := broadcastInDim S11 ![] bcast_S_S11 main_v1
  let main_v10 : FVec F S11 .f32 := addf main_v9 main_v8
  let main_v11 : FVec F S1x11 .f32 := broadcastInDim S1x11 ![1] bcast_S11_S1x11_1 main_arg2
  let main_v12 : FVec F S8388608x11 .f32 := broadcastInDim S8388608x11 ![0, 1] bcast_S8388608x1_S8388608x11_0_1 main_arg1
  let main_v13 : FVec F S8388608x11 .f32 := broadcastInDim S8388608x11 ![0, 1] bcast_S1x11_S8388608x11_0_1 main_v11
  let main_v14 : IVec S8388608x11 1 := cmpf .oge main_v12 main_v13
  let main_v15 : FVec F S1x11 .f32 := broadcastInDim S1x11 ![1] bcast_S11_S1x11_1 main_v10
  let main_v16 : FVec F S8388608x11 .f32 := broadcastInDim S8388608x11 ![0, 1] bcast_S8388608x1_S8388608x11_0_1 main_arg1
  let main_v17 : FVec F S8388608x11 .f32 := broadcastInDim S8388608x11 ![0, 1] bcast_S1x11_S8388608x11_0_1 main_v15
  let main_v18 : IVec S8388608x11 1 := cmpf .oge main_v16 main_v17
  let main_v19 : IVec S8388608x11 1 := cmpi .eq main_v14 main_v18
  let main_cst_0 : FVec F S_ .f32 := constant S_ .f32 0xFF800000#32
  let main_v20 : IVec S_ 1 := cmpf .ogt main_v1 main_cst_0
  let main_v21 : IVec S_ 1 := cmpf .olt main_v1 main_v3
  fn_part1 (F := F) main_v3 main_v19 main_v20 main_v21
-- ==== Kernel.lean ====
abbrev S8388608x1 : Shape := ⟨2, ![8388608, 1]⟩
abbrev S11 : Shape := ⟨1, ![11]⟩
abbrev S10 : Shape := ⟨1, ![10]⟩
abbrev S8388608 : Shape := ⟨1, ![8388608]⟩
abbrev S_ : Shape := ⟨0, ![]⟩
abbrev S16 : Shape := ⟨1, ![16]⟩
abbrev S1 : Shape := ⟨1, ![1]⟩
abbrev S512 : Shape := ⟨1, ![512]⟩
abbrev S16384 : Shape := ⟨1, ![16384]⟩
abbrev S65536x128 : Shape := ⟨2, ![65536, 128]⟩
abbrev S8x128 : Shape := ⟨2, ![8, 128]⟩
abbrev S4096x128 : Shape := ⟨2, ![4096, 128]⟩
abbrev S512x8x128 : Shape := ⟨3, ![512, 8, 128]⟩

abbrev nBuf : Table → Nat
  | .hbm => 27
  | .local .tc .vmem => 5
  | .local .tc .smem => 2
  | .local .scVector .vmem => 7
  | _ => 0

abbrev bufTy : (tb : Table) → Fin (nBuf tb) → BufTy
  | .hbm, ⟨0, _⟩ => ⟨S8388608x1, .f32⟩
  | .hbm, ⟨1, _⟩ => ⟨S8388608x1, .f32⟩
  | .hbm, ⟨2, _⟩ => ⟨S11, .f32⟩
  | .hbm, ⟨3, _⟩ => ⟨S10, .f32⟩
  | .hbm, ⟨4, _⟩ => ⟨S8388608, .f32⟩
  | .hbm, ⟨5, _⟩ => ⟨S8388608, .f32⟩
  | .hbm, ⟨6, _⟩ => ⟨S_, .f32⟩
  | .hbm, ⟨7, _⟩ => ⟨S16, .f32⟩
  | .hbm, ⟨8, _⟩ => ⟨S_, .i32⟩
  | .hbm, ⟨9, _⟩ => ⟨S1, .i32⟩
  | .hbm, ⟨10, _⟩ => ⟨S16, .f32⟩
  | .hbm, ⟨11, _⟩ => ⟨S_, .f32⟩
  | .hbm, ⟨12, _⟩ => ⟨S16, .f32⟩
  | .hbm, ⟨13, _⟩ => ⟨S_, .i32⟩
  | .hbm, ⟨14, _⟩ => ⟨S1, .i32⟩
  | .hbm, ⟨15, _⟩ => ⟨S16, .f32⟩
  | .hbm, ⟨16, _⟩ => ⟨S512, .f32⟩
  | .hbm, ⟨17, _⟩ => ⟨S65536x128, .f32⟩
  | .hbm, ⟨18, _⟩ => ⟨S65536x128, .f32⟩
  | .hbm, ⟨19, _⟩ => ⟨S8x128, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .local .tc .vmem, ⟨0, _⟩ => ⟨S4096x128, .f32⟩
  | .local .tc .vmem, ⟨1, _⟩ => ⟨S4096x128, .f32⟩
  | .local .tc .vmem, ⟨2, _⟩ => ⟨S4096x128, .f32⟩
  | .local .tc .vmem, ⟨3, _⟩ => ⟨S4096x128, .f32⟩
  | .local .tc .vmem, ⟨4, _⟩ => ⟨S8x128, .f32⟩
  | .local .tc .smem, ⟨0, _⟩ => ⟨S11, .f32⟩
  | .local .tc .smem, ⟨1, _⟩ => ⟨S10, .f32⟩
  | .local .scVector .vmem, ⟨0, _⟩ => ⟨S16384, .f32⟩
  | .local .scVector .vmem, ⟨1, _⟩ => ⟨S16384, .f32⟩
  | .local .scVector .vmem, ⟨2, _⟩ => ⟨S16384, .f32⟩
  | .local .scVector .vmem, ⟨3, _⟩ => ⟨S16384, .f32⟩
  | .local .scVector .vmem, ⟨4, _⟩ => ⟨S16, .f32⟩
  | .local .scVector .vmem, ⟨5, _⟩ => ⟨S16, .f32⟩
  | .local .scVector .vmem, ⟨6, _⟩ => ⟨S16, .f32⟩
  | _, _ => ⟨S8388608x1, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .smem, ⟨0, _⟩ => true
  | .smem, ⟨1, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 12 → Bool
  | ⟨0, _⟩ => false
  | ⟨1, _⟩ => false
  | ⟨2, _⟩ => false
  | ⟨3, _⟩ => false
  | ⟨4, _⟩ => false
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTables nBuf rfl bufTy 4 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_c : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_c_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v0_scv : Ref sig .scVector := ⟨.hbm, 4, rfl⟩
abbrev main_v1_scv : Ref sig .scVector := ⟨.hbm, 5, rfl⟩
abbrev main_v4_scv : Ref sig .scVector := ⟨.hbm, 10, rfl⟩
abbrev main_v7_scv : Ref sig .scVector := ⟨.hbm, 15, rfl⟩
abbrev main_v8_scv : Ref sig .scVector := ⟨.hbm, 16, rfl⟩
abbrev cc1_stg2_0 : Ref sig .tc := ⟨.vmem, 0, rfl⟩
abbrev cc1_stg2_1 : Ref sig .tc := ⟨.vmem, 1, rfl⟩
abbrev cc1_stg3_0 : Ref sig .tc := ⟨.vmem, 2, rfl⟩
abbrev cc1_stg3_1 : Ref sig .tc := ⟨.vmem, 3, rfl⟩
abbrev cc1_stg4_0 : Ref sig .tc := ⟨.vmem, 4, rfl⟩
abbrev cc1_stg0_0 : Ref sig .tc := ⟨.smem, 0, rfl⟩
abbrev cc1_stg1_0 : Ref sig .tc := ⟨.smem, 1, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc0_scratch6 : Ref sig .scVector := ⟨.vmem, 6, rfl⟩
abbrev cc1_sem0_0 : DmaSem sig := 5
abbrev cc1_sem1_0 : DmaSem sig := 6
abbrev cc1_sem2_0 : DmaSem sig := 7
abbrev cc1_sem2_1 : DmaSem sig := 8
abbrev cc1_sem3_0 : DmaSem sig := 9
abbrev cc1_sem3_1 : DmaSem sig := 10
abbrev cc1_sem4_0 : DmaSem sig := 11
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) (c0_i32 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c114688_i32 : BitVec 32 := 114688#32
  let v2 : BitVec 32 := Scalar.muli v1 c114688_i32
  let v13 : BitVec 32 := Scalar.addi v2 c0_i32
  ![v13.toNat]
@[reducible] def k0_t1_loop : Scf.Loop 32 :=
  let c0_i32_1 : BitVec 32 := 0#32
  let c1024_i32 : BitVec 32 := 1024#32
  let v28 : BitVec 32 := Scalar.addi c0_i32_1 c1024_i32
  let c1_i32 : BitVec 32 := 1#32
  ⟨c0_i32_1, v28, c1_i32⟩
def k0_off2 (k0_t1 : Fin k0_t1_loop.trips) : Fin 1 → Nat :=
  let c0_i32_1 : BitVec 32 := 0#32
  let c1_i32 : BitVec 32 := 1#32
  let arg16 : BitVec 32 := Scf.iv c0_i32_1 c1_i32 k0_t1
  let c16_i32_28 : BitVec 32 := 16#32
  let v93 : BitVec 32 := Scalar.muli arg16 c16_i32_28
  let v94 : Index := Scalar.indexCast v93
  ![v94.toNat]

def k0_chk1 (v105 : IVec S16 32) : Prop :=
  (∀ a x, ((![v105] : Fin 1 → IVec S16 32) a x).toNat < S16.size a)
theorem k0_idx1_inb : ∀ (v105 : IVec S16 32) (k0_hw1 : k0_chk1 v105), ∀ a x, ((![v105] : Fin 1 → IVec S16 32) a x).toNat < S16.size a := fun v105 k0_hw1 => k0_hw1
@[reducible] def k0_t2_loop : Scf.Loop 32 :=
  let c0_i32_3 : BitVec 32 := 0#32
  let c1024_i32_4 : BitVec 32 := 1024#32
  let v39 : BitVec 32 := Scalar.addi c0_i32_3 c1024_i32_4
  let c1_i32_5 : BitVec 32 := 1#32
  ⟨c0_i32_3, v39, c1_i32_5⟩
def k0_off3 (k0_t2 : Fin k0_t2_loop.trips) : Fin 1 → Nat :=
  let c0_i32_3 : BitVec 32 := 0#32
  let c1_i32_5 : BitVec 32 := 1#32
  let arg16 : BitVec 32 := Scf.iv c0_i32_3 c1_i32_5 k0_t2
  let c16_i32_28 : BitVec 32 := 16#32
  let v93 : BitVec 32 := Scalar.muli arg16 c16_i32_28
  let v94 : Index := Scalar.indexCast v93
  ![v94.toNat]

def k0_chk2 (v105 : IVec S16 32) : Prop :=
  (∀ a x, ((![v105] : Fin 1 → IVec S16 32) a x).toNat < S16.size a)
theorem k0_idx2_inb : ∀ (v105 : IVec S16 32) (k0_hw2 : k0_chk2 v105), ∀ a x, ((![v105] : Fin 1 → IVec S16 32) a x).toNat < S16.size a := fun v105 k0_hw2 => k0_hw2
@[reducible] def k0_t3_loop : Scf.Loop 32 :=
  let c0_i32_7 : BitVec 32 := 0#32
  let c1024_i32_8 : BitVec 32 := 1024#32
  let v50 : BitVec 32 := Scalar.addi c0_i32_7 c1024_i32_8
  let c1_i32_9 : BitVec 32 := 1#32
  ⟨c0_i32_7, v50, c1_i32_9⟩
def k0_off4 (k0_t3 : Fin k0_t3_loop.trips) : Fin 1 → Nat :=
  let c0_i32_7 : BitVec 32 := 0#32
  let c1_i32_9 : BitVec 32 := 1#32
  let arg16 : BitVec 32 := Scf.iv c0_i32_7 c1_i32_9 k0_t3
  let c16_i32_28 : BitVec 32 := 16#32
  let v93 : BitVec 32 := Scalar.muli arg16 c16_i32_28
  let v94 : Index := Scalar.indexCast v93
  ![v94.toNat]

def k0_chk3 (v105 : IVec S16 32) : Prop :=
  (∀ a x, ((![v105] : Fin 1 → IVec S16 32) a x).toNat < S16.size a)
theorem k0_idx3_inb : ∀ (v105 : IVec S16 32) (k0_hw3 : k0_chk3 v105), ∀ a x, ((![v105] : Fin 1 → IVec S16 32) a x).toNat < S16.size a := fun v105 k0_hw3 => k0_hw3
@[reducible] def k0_t4_loop : Scf.Loop 32 :=
  let c0_i32_11 : BitVec 32 := 0#32
  let c1024_i32_12 : BitVec 32 := 1024#32
  let v61 : BitVec 32 := Scalar.addi c0_i32_11 c1024_i32_12
  let c1_i32_13 : BitVec 32 := 1#32
  ⟨c0_i32_11, v61, c1_i32_13⟩
def k0_off5 (k0_t4 : Fin k0_t4_loop.trips) : Fin 1 → Nat :=
  let c0_i32_11 : BitVec 32 := 0#32
  let c1_i32_13 : BitVec 32 := 1#32
  let arg16 : BitVec 32 := Scf.iv c0_i32_11 c1_i32_13 k0_t4
  let c16_i32_28 : BitVec 32 := 16#32
  let v93 : BitVec 32 := Scalar.muli arg16 c16_i32_28
  let v94 : Index := Scalar.indexCast v93
  ![v94.toNat]

def k0_chk4 (v105 : IVec S16 32) : Prop :=
  (∀ a x, ((![v105] : Fin 1 → IVec S16 32) a x).toNat < S16.size a)
theorem k0_idx4_inb : ∀ (v105 : IVec S16 32) (k0_hw4 : k0_chk4 v105), ∀ a x, ((![v105] : Fin 1 → IVec S16 32) a x).toNat < S16.size a := fun v105 k0_hw4 => k0_hw4
@[reducible] def k0_t5_loop : Scf.Loop 32 :=
  let c0_i32_15 : BitVec 32 := 0#32
  let c1024_i32_16 : BitVec 32 := 1024#32
  let v72 : BitVec 32 := Scalar.addi c0_i32_15 c1024_i32_16
  let c1_i32_17 : BitVec 32 := 1#32
  ⟨c0_i32_15, v72, c1_i32_17⟩
def k0_off6 (k0_t5 : Fin k0_t5_loop.trips) : Fin 1 → Nat :=
  let c0_i32_15 : BitVec 32 := 0#32
  let c1_i32_17 : BitVec 32 := 1#32
  let arg16 : BitVec 32 := Scf.iv c0_i32_15 c1_i32_17 k0_t5
  let c16_i32_28 : BitVec 32 := 16#32
  let v93 : BitVec 32 := Scalar.muli arg16 c16_i32_28
  let v94 : Index := Scalar.indexCast v93
  ![v94.toNat]

def k0_chk5 (v105 : IVec S16 32) : Prop :=
  (∀ a x, ((![v105] : Fin 1 → IVec S16 32) a x).toNat < S16.size a)
theorem k0_idx5_inb : ∀ (v105 : IVec S16 32) (k0_hw5 : k0_chk5 v105), ∀ a x, ((![v105] : Fin 1 → IVec S16 32) a x).toNat < S16.size a := fun v105 k0_hw5 => k0_hw5
@[reducible] def k0_t6_loop : Scf.Loop 32 :=
  let c0_i32_19 : BitVec 32 := 0#32
  let c1024_i32_20 : BitVec 32 := 1024#32
  let v83 : BitVec 32 := Scalar.addi c0_i32_19 c1024_i32_20
  let c1_i32_21 : BitVec 32 := 1#32
  ⟨c0_i32_19, v83, c1_i32_21⟩
def k0_off7 (k0_t6 : Fin k0_t6_loop.trips) : Fin 1 → Nat :=
  let c0_i32_19 : BitVec 32 := 0#32
  let c1_i32_21 : BitVec 32 := 1#32
  let arg16 : BitVec 32 := Scf.iv c0_i32_19 c1_i32_21 k0_t6
  let c16_i32_28 : BitVec 32 := 16#32
  let v93 : BitVec 32 := Scalar.muli arg16 c16_i32_28
  let v94 : Index := Scalar.indexCast v93
  ![v94.toNat]

def k0_chk6 (v105 : IVec S16 32) : Prop :=
  (∀ a x, ((![v105] : Fin 1 → IVec S16 32) a x).toNat < S16.size a)
theorem k0_idx6_inb : ∀ (v105 : IVec S16 32) (k0_hw6 : k0_chk6 v105), ∀ a x, ((![v105] : Fin 1 → IVec S16 32) a x).toNat < S16.size a := fun v105 k0_hw6 => k0_hw6
@[reducible] def k0_t7_loop : Scf.Loop 32 :=
  let c0_i32_23 : BitVec 32 := 0#32
  let c1024_i32_24 : BitVec 32 := 1024#32
  let v89 : BitVec 32 := Scalar.addi c0_i32_23 c1024_i32_24
  let c1_i32_25 : BitVec 32 := 1#32
  ⟨c0_i32_23, v89, c1_i32_25⟩
def k0_off8 (k0_t7 : Fin k0_t7_loop.trips) : Fin 1 → Nat :=
  let c0_i32_23 : BitVec 32 := 0#32
  let c1_i32_25 : BitVec 32 := 1#32
  let arg16 : BitVec 32 := Scf.iv c0_i32_23 c1_i32_25 k0_t7
  let c16_i32_28 : BitVec 32 := 16#32
  let v93 : BitVec 32 := Scalar.muli arg16 c16_i32_28
  let v94 : Index := Scalar.indexCast v93
  ![v94.toNat]

def k0_chk7 (v105 : IVec S16 32) : Prop :=
  (∀ a x, ((![v105] : Fin 1 → IVec S16 32) a x).toNat < S16.size a)
theorem k0_idx7_inb : ∀ (v105 : IVec S16 32) (k0_hw7 : k0_chk7 v105), ∀ a x, ((![v105] : Fin 1 → IVec S16 32) a x).toNat < S16.size a := fun v105 k0_hw7 => k0_hw7
def k0_off9 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v92 : BitVec 32 := Scalar.muli v1 c16_i32
  ![v92.toNat]
abbrev grid1 : Pipeline.Grid := ⟨1, ![9], ![false]⟩

def cc1_transform_0 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_1 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_2 (i : grid1.Coords) : Fin 2 → Nat :=
  let arg0 : BitVec 32 := BitVec.ofNat 32 (i 0).val
  let c7_i32 : BitVec 32 := 7#32
  let v0 : BitVec 32 := Scalar.addi arg0 c7_i32
  let c0_i32 : BitVec 32 := 0#32
  let c0_i32_0 : BitVec 32 := 0#32
  ![v0.toNat, c0_i32.toNat]

def cc1_transform_3 (i : grid1.Coords) : Fin 2 → Nat :=
  let arg0 : BitVec 32 := BitVec.ofNat 32 (i 0).val
  let c7_i32 : BitVec 32 := 7#32
  let v0 : BitVec 32 := Scalar.addi arg0 c7_i32
  let c0_i32 : BitVec 32 := 0#32
  let c0_i32_0 : BitVec 32 := 0#32
  ![v0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .smem S11 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .smem S10 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S4096x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S4096x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S8x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S8388608x1 : Shape := ⟨2, ![8388608, 1]⟩
abbrev S11 : Shape := ⟨1, ![11]⟩
abbrev S10 : Shape := ⟨1, ![10]⟩
abbrev S8388608 : Shape := ⟨1, ![8388608]⟩
abbrev S1x11 : Shape := ⟨2, ![1, 11]⟩
abbrev S8388608x11 : Shape := ⟨2, ![8388608, 11]⟩
abbrev S_ : Shape := ⟨0, ![]⟩
abbrev S1 : Shape := ⟨1, ![1]⟩
abbrev S1x1 : Shape := ⟨2, ![1, 1]⟩

abbrev nBuf : Space → Nat
  | .hbm => 54
  | .vmem => 0
  | .smem => 0
  | _ => 0

abbrev bufTy : (tb : Table) → Fin (tcTables nBuf tb) → BufTy
  | .hbm, ⟨0, _⟩ => ⟨S8388608x1, .f32⟩
  | .hbm, ⟨1, _⟩ => ⟨S8388608x1, .f32⟩
  | .hbm, ⟨2, _⟩ => ⟨S11, .f32⟩
  | .hbm, ⟨3, _⟩ => ⟨S10, .f32⟩
  | .hbm, ⟨4, _⟩ => ⟨S8388608, .f32⟩
  | .hbm, ⟨5, _⟩ => ⟨S8388608x1, .f32⟩
  | .hbm, ⟨6, _⟩ => ⟨S1x11, .f32⟩
  | .hbm, ⟨7, _⟩ => ⟨S8388608x11, .f32⟩
  | .hbm, ⟨8, _⟩ => ⟨S8388608x11, .f32⟩
  | .hbm, ⟨9, _⟩ => ⟨S8388608x11, .i1⟩
  | .hbm, ⟨10, _⟩ => ⟨S8388608x11, .i32⟩
  | .hbm, ⟨11, _⟩ => ⟨S_, .i32⟩
  | .hbm, ⟨12, _⟩ => ⟨S8388608, .i32⟩
  | .hbm, ⟨13, _⟩ => ⟨S_, .i32⟩
  | .hbm, ⟨14, _⟩ => ⟨S8388608, .i32⟩
  | .hbm, ⟨15, _⟩ => ⟨S8388608, .i32⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S8388608, .i32⟩
  | .hbm, ⟨20, _⟩ => ⟨S8388608, .i32⟩
  | .hbm, ⟨21, _⟩ => ⟨S_, .i32⟩
  | .hbm, ⟨22, _⟩ => ⟨S8388608, .i32⟩
  | .hbm, ⟨23, _⟩ => ⟨S8388608, .i32⟩
  | .hbm, ⟨24, _⟩ => ⟨S_, .i32⟩
  | .hbm, ⟨25, _⟩ => ⟨S8388608, .i32⟩
  | .hbm, ⟨26, _⟩ => ⟨S8388608, .i1⟩
  | .hbm, ⟨27, _⟩ => ⟨S_, .i32⟩
  | .hbm, ⟨28, _⟩ => ⟨S8388608, .i32⟩
  | .hbm, ⟨29, _⟩ => ⟨S8388608, .i32⟩
  | .hbm, ⟨30, _⟩ => ⟨S8388608, .i32⟩
  | .hbm, ⟨31, _⟩ => ⟨S8388608x1, .i32⟩
  | .hbm, ⟨32, _⟩ => ⟨S1, .i32⟩
  | .hbm, ⟨33, _⟩ => ⟨S_, .i32⟩
  | .hbm, ⟨34, _⟩ => ⟨S8388608x1, .i32⟩
  | .hbm, ⟨35, _⟩ => ⟨S8388608x1, .i1⟩
  | .hbm, ⟨36, _⟩ => ⟨S1x1, .i32⟩
  | .hbm, ⟨37, _⟩ => ⟨S8388608x1, .i32⟩
  | .hbm, ⟨38, _⟩ => ⟨S8388608x1, .i1⟩
  | .hbm, ⟨39, _⟩ => ⟨S8388608x1, .i1⟩
  | .hbm, ⟨40, _⟩ => ⟨S_, .i1⟩
  | .hbm, ⟨41, _⟩ => ⟨S8388608, .i1⟩
  | .hbm, ⟨42, _⟩ => ⟨S8388608, .f32⟩
  | .hbm, ⟨43, _⟩ => ⟨S_, .f32⟩
  | .hbm, ⟨44, _⟩ => ⟨S8388608, .f32⟩
  | .hbm, ⟨45, _⟩ => ⟨S8388608, .f32⟩
  | .hbm, ⟨46, _⟩ => ⟨S8388608x1, .f32⟩
  | .hbm, ⟨47, _⟩ => ⟨S8388608x1, .f32⟩
  | .hbm, ⟨48, _⟩ => ⟨S8388608x1, .f32⟩
  | .hbm, ⟨49, _⟩ => ⟨S8388608x1, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | _, _ => ⟨S8388608x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c : Ref sig .tc := ⟨.hbm, 11, rfl⟩
abbrev main_v7 : Ref sig .tc := ⟨.hbm, 12, rfl⟩
abbrev main_c_0 : Ref sig .tc := ⟨.hbm, 13, rfl⟩
abbrev main_v8 : Ref sig .tc := ⟨.hbm, 14, rfl⟩
abbrev main_v9 : Ref sig .tc := ⟨.hbm, 15, rfl⟩
abbrev main_c_1 : Ref sig .tc := ⟨.hbm, 16, rfl⟩
abbrev main_c_2 : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_v10 : Ref sig .tc := ⟨.hbm, 23, rfl⟩
abbrev main_call1_c : Ref sig .tc := ⟨.hbm, 24, rfl⟩
abbrev main_call1_v0 : Ref sig .tc := ⟨.hbm, 25, rfl⟩
abbrev main_call1_v1 : Ref sig .tc := ⟨.hbm, 26, rfl⟩
abbrev main_call1_c_0 : Ref sig .tc := ⟨.hbm, 27, rfl⟩
abbrev main_call1_v2 : Ref sig .tc := ⟨.hbm, 28, rfl⟩
abbrev main_call1_v3 : Ref sig .tc := ⟨.hbm, 29, rfl⟩
abbrev main_call1_v4 : Ref sig .tc := ⟨.hbm, 30, rfl⟩
abbrev main_call1_v5 : Ref sig .tc := ⟨.hbm, 31, rfl⟩
abbrev main_call1_c_1 : Ref sig .tc := ⟨.hbm, 32, rfl⟩
abbrev main_call1_c_2 : Ref sig .tc := ⟨.hbm, 33, rfl⟩
abbrev main_call1_v6 : Ref sig .tc := ⟨.hbm, 34, rfl⟩
abbrev main_call1_v7 : Ref sig .tc := ⟨.hbm, 35, rfl⟩
abbrev main_call1_v8 : Ref sig .tc := ⟨.hbm, 36, rfl⟩
abbrev main_call1_v9 : Ref sig .tc := ⟨.hbm, 37, rfl⟩
abbrev main_call1_v10 : Ref sig .tc := ⟨.hbm, 38, rfl⟩
abbrev main_call1_v11 : Ref sig .tc := ⟨.hbm, 39, rfl⟩
abbrev main_call1_c_3 : Ref sig .tc := ⟨.hbm, 40, rfl⟩
abbrev main_call1_v12 : Ref sig .tc := ⟨.hbm, 41, rfl⟩
abbrev main_call1_v13 : Ref sig .tc := ⟨.hbm, 42, rfl⟩
abbrev main_call1_cst : Ref sig .tc := ⟨.hbm, 43, rfl⟩
abbrev main_call1_v14 : Ref sig .tc := ⟨.hbm, 44, rfl⟩
abbrev main_v11 : Ref sig .tc := ⟨.hbm, 45, rfl⟩
abbrev main_v12 : Ref sig .tc := ⟨.hbm, 46, rfl⟩
abbrev main_v13 : Ref sig .tc := ⟨.hbm, 47, rfl⟩
abbrev main_v14 : Ref sig .tc := ⟨.hbm, 48, rfl⟩
abbrev main_v15 : Ref sig .tc := ⟨.hbm, 49, rfl⟩
abbrev main_cst : Ref sig .tc := ⟨.hbm, 50, rfl⟩
abbrev main_v16 : Ref sig .tc := ⟨.hbm, 51, rfl⟩
abbrev main_cst_3 : Ref sig .tc := ⟨.hbm, 52, rfl⟩
abbrev main_v17 : Ref sig .tc := ⟨.hbm, 53, rfl⟩

abbrev nD : Nat := 1
abbrev τ : Topo := Topo.v7x

variable {F : FTy → Type} [FloatOps F]
-- ==== Proof.KernelIdeal.Common.lean ====
/-
  What every module of this proof shares: the program as the SparseCore launch theorem sees it, the resource algebra, the
  arrays' locations and the kernel's memrefs.
-/
module

public import proofs.«01_k».proof.Defs
public import Idealize.ShloMosaic.Lib.SparseCore.Quiescent
public import Idealize.ShloMosaic.Lib.StableHlo.Run
public import Idealize.ShloMosaic.Lib.Pipeline.Kit
public import Idealize.ShloMosaic.Lib.Pipeline.Regions
public import Idealize.ShloMosaic.Lib.SparseCore.Threads
public import Idealize.ShloMosaic.Lib.ShareLeaves
public import Idealize.ShloMosaic.Lib.Batch
public import Idealize.ShloMosaic.Lib.Tactic
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points

@[expose] public section

noncomputable section

namespace Cert.Proof.KernelIdeal

open Cert.KernelIdeal Cert.KernelIdeal.Gen

open Idealize.ShloMosaic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

/-- The labels of the program below the SparseCore's own: the kernel bodies and the one pipeline. -/
abbrev ΛP : Labels := Pipeline.Sig Λ₀ (Fin 1) fun p => (pcfgs (F := F) p).Adm
/-- The SparseCore launch configuration: one call. -/
abbrev K : SparseCore.Cfg τ sig (ΛP (F := F)) 1 := sc (F := F)
/-- The bodies and the pipeline under their labels. -/
abbrev D [FloatOps F] : Defs nD τ sig (Elt F) (ΛP (F := F)) := Pipeline.defs pcfgs defs₀
/-- No recursion: no variants at any level. -/
abbrev 𝒱₀ : Variants := Variants.none
abbrev 𝒱 : Variants := 𝒱₀.lift
abbrev v₀ : 𝒱.V := Sum.inl none

theorem nSub_zero : (K (F := F)).nSub 0 = 16 := rfl
theorem nCore_zero : (K (F := F)).nCore 0 = 2 := rfl

/-- The side conditions of the launch: the handshakes' semaphores are distinct and nobody's scratch. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the pipeline's rounds and the transfers' counters -/

abbrev UH : Type := URounds (GSem nD τ sig) ℕ
abbrev UP : Type := URounds (GSem nD τ sig) Unit
abbrev UU : Type := UH × (UP × Counters)

local notation "𝕄" => MT nD τ sig (HIx 1) (Elt F) ℕ UU ℕ

abbrev EH : Emb UH (MT nD τ sig (HIx 1) (Elt F) ℕ UU ℕ) := embL
/-- The pipeline's rounds within the whole algebra. -/
def EP : Emb UP (MT nD τ sig (HIx 1) (Elt F) ℕ UU ℕ) := (Emb.inl : Emb UP (UP × Counters)).trans embR

instance EP_landsIn : (EP : Emb UP 𝕄).LandsIn (upEmb : UEmb _ 𝕄) := by unfold EP embR; infer_instance

/-! ## The arrays the SparseCore call touches, as the TensorCore names them -/

abbrev pLoc (d : Dev nD) : Loc nD τ sig := (SparseCore.T d).loc main_v0
abbrev tLoc (d : Dev nD) : Loc nD τ sig := (SparseCore.T d).loc main_v1
abbrev wLoc (d : Dev nD) : Loc nD τ sig := (SparseCore.T d).loc main_v4
abbrev bLoc (d : Dev nD) : Loc nD τ sig := (SparseCore.T d).loc main_v7
abbrev oLoc (d : Dev nD) : Loc nD τ sig := (SparseCore.T d).loc main_v8

end Cert.Proof.KernelIdeal
-- ==== Proof.KernelIdeal.Loop.lean ====
/-
  One counted loop of the tile kernel. All seven loops of the kernel are the same loop over different pairs of staging
  buffers: 1024 trips, each of which reads 16 targets and 16 predictions, turns the targets into bin numbers clipped to
  0..9, reads the 16 weights at these numbers from the tile's copy of the padded weight table and adds the weighted squared
  differences to the 16 running sums.
-/
module

public import proofs.«01_k».proof.Proof.KernelIdeal.Common

@[expose] public section

noncomputable section

namespace Cert.Proof.KernelIdeal

open Cert.KernelIdeal Cert.KernelIdeal.Gen

open Idealize.ShloMosaic
open Idealize.ShloMosaic.SparseCore (V)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

/-! ## The bin numbers are below 16 -/

/-- A word clipped to 0..9 is at most 9. -/
theorem clip_lt (x : BitVec 32) : (Scalar.minsi 9#32 (Scalar.maxsi 0#32 x)).toNat < 10 := by
  unfold Scalar.minsi Scalar.maxsi IntOp.minsi IntOp.maxsi
  split <;> split <;> simp_all [BitVec.slt, BitVec.sle, BitVec.toInt] <;> omega

/-- The bin numbers of a vector of targets, from the two vectors the tile computes off the edges. -/
def binIdx (v6 v12 : FVec F S16 .f32) (t : Vec F S16 .f32) : IVec S16 32 := k0_pay1 v6 v12 t

/-- Each bin number is below 10. -/
theorem binIdx_lt (v6 v12 : FVec F S16 .f32) (t : Vec F S16 .f32) (x : S16.Idx) : (binIdx v6 v12 t x).toNat < 10 :=
  clip_lt (fptosi 32 (mulf (subf t v6) v12) x)

/-- Each bin number is inside the padded weight table: what the indexed load asks. -/
theorem binIdx_inb (v6 v12 : FVec F S16 .f32) (t : Vec F S16 .f32) :
    ∀ a x, ((![binIdx v6 v12 t] : Fin 1 → IVec S16 32) a x).toNat < S16.size a := by
  intro a x
  match a with
  | 0 => exact lt_of_lt_of_le (binIdx_lt v6 v12 t x) (by decide)

/-- The same as the program's check asks it. -/
theorem binIdx_chk (v6 v12 : FVec F S16 .f32) (t : Vec F S16 .f32) : k0_chk1 (binIdx v6 v12 t) := binIdx_inb v6 v12 t

/-! ## The loop -/

/-- The 16 elements of trip `k`. -/
abbrev tripRect (k : Fin k0_t1_loop.trips) : Rect S16384 := Rect.unit (s := S16384) (k0_off2 k) S16.size (k0_off2_inb k)

/-- One trip over target buffer `mt`, prediction buffer `mp` and weight table `mw`. -/
def tripProg (i : grid0.Coords) (mt mp : Memref sig .scVector .vmem S16384 .f32) (mw : Memref sig .scVector .vmem S16 .f32)
    (v6 v12 : FVec F S16 .f32) (k : Fin k0_t1_loop.trips) (acc : FVec F S16 .f32) :
    Prog (TpuEff nD τ sig (Elt F) Λ₀ (.scVector ((i 0).castLE hcore0) ((i 1).castLE hsub0))) (FVec F S16 .f32) := do
  let t : Vec F S16 .f32 ← Prog.lift (.load mt (tripRect k).toLoadRect (View.loadsAt_vmem h_S16))
  let p : Vec F S16 .f32 ← Prog.lift (.load mp (tripRect k).toLoadRect (View.loadsAt_vmem h_S16))
  have hw : k0_chk1 (binIdx v6 v12 t) := (← Prog.lift (TpuEff.assume (k0_chk1 (binIdx v6 v12 t)) (k0_chk1.dec _))).down
  let w : Vec F S16 .f32 ← SparseCore.vectorLoadIdx mw ![binIdx v6 v12 t] (k0_idx1_inb _ hw) (View.loads_vmem h_S16)
  pure (k0_pay2 acc t p w)

/-- The loop over all 1024 trips. -/
def loopProg (i : grid0.Coords) (mt mp : Memref sig .scVector .vmem S16384 .f32) (mw : Memref sig .scVector .vmem S16 .f32)
    (v6 v12 : FVec F S16 .f32) (acc : FVec F S16 .f32) :
    Prog (TpuEff nD τ sig (Elt F) Λ₀ (.scVector ((i 0).castLE hcore0) ((i 1).castLE hsub0))) (FVec F S16 .f32) :=
  Scf.Loop.for k0_t1_loop k0_t1_ok acc (tripProg i mt mp mw v6 v12)

/-- What trip `k` adds: the running sums after it, from those before it. -/
def tripVal (v6 v12 : FVec F S16 .f32) (ct cp : S16384.Idx → Elt F .f32) (cw : S16.Idx → Elt F .f32)
    (k : Fin k0_t1_loop.trips) (acc : FVec F S16 .f32) : FVec F S16 .f32 :=
  k0_pay2 acc (fun x => ct ((tripRect k).idx x)) (fun x => cp ((tripRect k).idx x))
    (loadIdx cw ![binIdx v6 v12 fun x => ct ((tripRect k).idx x)] (binIdx_inb v6 v12 _))

/-- The running sums after `n` trips from `acc`. -/
def tripsVal (v6 v12 : FVec F S16 .f32) (ct cp : S16384.Idx → Elt F .f32) (cw : S16.Idx → Elt F .f32)
    (acc : FVec F S16 .f32) : ℕ → FVec F S16 .f32
  | 0 => acc
  | n + 1 => if h : n < k0_t1_loop.trips then tripVal v6 v12 ct cp cw ⟨n, h⟩ (tripsVal v6 v12 ct cp cw acc n) else tripsVal v6 v12 ct cp cw acc n

theorem tripsVal_succ (v6 v12 : FVec F S16 .f32) (ct cp : S16384.Idx → Elt F .f32) (cw : S16.Idx → Elt F .f32)
    (acc : FVec F S16 .f32) (k : Fin k0_t1_loop.trips) :
    tripsVal v6 v12 ct cp cw acc (k.val + 1) = tripVal v6 v12 ct cp cw k (tripsVal v6 v12 ct cp cw acc k.val) := by
  rw [tripsVal, dif_pos k.isLt]

/-- A read through all of a buffer's view is the view's read. -/
theorem read_access_full (mw : Memref sig .scVector .vmem S16 .f32) (f : mw.view.ty.Contents (Elt F)) :
    (mw.access (Rect.whole S16)).read (Elt F) f = mw.view.read (Elt F) f := by
  funext x
  rw [View.read_apply, View.read_apply]
  exact congrArg (fun j => _root_.cast _ (f j)) (congrArg mw.view.emb (Rect.emb_whole_apply S16 x))

/-- The three buffers a loop reads, held whole. -/
abbrev loopBufs (d : Dev nD) (i : grid0.Coords) (mt mp : Memref sig .scVector .vmem S16384 .f32) (mw : Memref sig .scVector .vmem S16 .f32)
    (ft : Buf (Elt F) (mt.view.loc (V d ((i 0).castLE hcore0) ((i 1).castLE hsub0)))) (fp : Buf (Elt F) (mp.view.loc (V d ((i 0).castLE hcore0) ((i 1).castLE hsub0)))) (fw : Buf (Elt F) (mw.view.loc (V d ((i 0).castLE hcore0) ((i 1).castLE hsub0)))) : sProp 𝕄 :=
  iprop((mt.view.loc (V d ((i 0).castLE hcore0) ((i 1).castLE hsub0)) ↦{fullShare} ft) ∗ (mp.view.loc (V d ((i 0).castLE hcore0) ((i 1).castLE hsub0)) ↦{fullShare} fp) ∗ (mw.view.loc (V d ((i 0).castLE hcore0) ((i 1).castLE hsub0)) ↦{fullShare} fw))

section Run

variable (d : Dev nD) (i : grid0.Coords) (mt mp : Memref sig .scVector .vmem S16384 .f32) (mw : Memref sig .scVector .vmem S16 .f32)
    (v6 v12 : FVec F S16 .f32)
    (ft : Buf (Elt F) (mt.view.loc (V d ((i 0).castLE hcore0) ((i 1).castLE hsub0)))) (fp : Buf (Elt F) (mp.view.loc (V d ((i 0).castLE hcore0) ((i 1).castLE hsub0)))) (fw : Buf (Elt F) (mw.view.loc (V d ((i 0).castLE hcore0) ((i 1).castLE hsub0))))

/-- ONE TRIP leaves the buffers as they are and returns the running sums with this trip's terms added. -/
theorem wp_trip (k : Fin k0_t1_loop.trips) (acc : FVec F S16 .f32) :
    loopBufs d i mt mp mw ft fp fw
      ⊢ wp frame (wpE (defs₀ (F := F)) 𝒱₀ (V d ((i 0).castLE hcore0) ((i 1).castLE hsub0)) none) Set.univ (tripProg i mt mp mw v6 v12 k acc)
          fun acc' => iprop(⌜acc' = tripVal v6 v12 (mt.view.read (Elt F) ft) (mp.view.read (Elt F) fp) (mw.view.read (Elt F) fw) k acc⌝
            ∗ loopBufs d i mt mp mw ft fp fw) := by
  unfold loopBufs tripProg
  simp only [Prog.lift, Prog.bind_op, Prog.bind_ret, Prog.pure_eq_ret, Prog.bind_assoc]
  iintro ⟨Ht, Hp, Hw⟩
  iapply (wp_load 𝒱₀ (V d ((i 0).castLE hcore0) ((i 1).castLE hsub0)) none Set.univ (m := mt) (S := Finset.univ) (Finset.subset_univ _)) $$ Ht; iintro Ht
  iapply (wp_load 𝒱₀ (V d ((i 0).castLE hcore0) ((i 1).castLE hsub0)) none Set.univ (m := mp) (S := Finset.univ) (Finset.subset_univ _)) $$ Hp; iintro Hp
  rw [wp_assume_of _ _ _ _ (binIdx_chk v6 v12 _)]
  iapply (SparseCore.wp_vectorLoadIdx 𝒱₀ (V d ((i 0).castLE hcore0) ((i 1).castLE hsub0)) none Set.univ (base := mw) (S := Finset.univ) (q := fullShare) (Finset.subset_univ _)) $$ Hw; iintro Hw
  rw [wp_ret]; imodintro
  isplitr
  · ipureintro; rw [read_access_full mw fw]; rfl
  isplitl [Ht]; · iexact Ht
  isplitl [Hp]; · iexact Hp
  iexact Hw

/-- THE LOOP: over buffers held whole at any contents, the loop leaves them as they are and returns the running sums after
    its 1024 trips. -/
theorem wp_loop (acc : FVec F S16 .f32) {β : Type}
    (kk : FVec F S16 .f32 → Prog (TpuEff nD τ sig (Elt F) Λ₀ (.scVector ((i 0).castLE hcore0) ((i 1).castLE hsub0))) β) (Q : β → sProp 𝕄) :
    loopBufs d i mt mp mw ft fp fw
      ⊢ iprop((loopBufs d i mt mp mw ft fp fw
          -∗ wp frame (wpE (defs₀ (F := F)) 𝒱₀ (V d ((i 0).castLE hcore0) ((i 1).castLE hsub0)) none) Set.univ
              (kk (tripsVal v6 v12 (mt.view.read (Elt F) ft) (mp.view.read (Elt F) fp) (mw.view.read (Elt F) fw) acc 1024)) Q)
        -∗ wp frame (wpE (defs₀ (F := F)) 𝒱₀ (V d ((i 0).castLE hcore0) ((i 1).castLE hsub0)) none) Set.univ (loopProg i mt mp mw v6 v12 acc >>= kk) Q) := by
  have htr : k0_t1_loop.trips = 1024 := by decide
  let I : ℕ → FVec F S16 .f32 → sProp 𝕄 := fun n acc' =>
    iprop(⌜acc' = tripsVal v6 v12 (mt.view.read (Elt F) ft) (mp.view.read (Elt F) fp) (mw.view.read (Elt F) fw) acc n⌝
      ∗ loopBufs d i mt mp mw ft fp fw)
  have hI : ∀ (k : Fin k0_t1_loop.trips) (acc' : FVec F S16 .f32), I k.val acc' ⊢ wp frame (wpE (defs₀ (F := F)) 𝒱₀ (V d ((i 0).castLE hcore0) ((i 1).castLE hsub0)) none) Set.univ
      (tripProg i mt mp mw v6 v12 k acc') (I (k.val + 1)) := by
    intro k acc'
    iintro ⟨%hacc, H⟩
    subst hacc
    simp only [I, tripsVal_succ]
    iapply (wp_trip d i mt mp mw v6 v12 ft fp fw k _); iexact H
  have h := Scf.wp_for_bind frame (wpE (defs₀ (F := F)) 𝒱₀ (V d ((i 0).castLE hcore0) ((i 1).castLE hsub0)) none) Set.univ _ _ _ k0_t1_ok acc
    (tripProg i mt mp mw v6 v12) I hI (kk := kk) (Q := Q)
  iintro H Hk
  unfold loopProg
  iapply h $$ [H]
  · isplitr; · ipureintro; rfl
    iexact H
  iintro %acc' ⟨%hacc, H⟩
  have hacc' := hacc.trans (congrArg (tripsVal v6 v12 (mt.view.read (Elt F) ft) (mp.view.read (Elt F) fp) (mw.view.read (Elt F) fw) acc) htr)
  subst hacc'
  iapply Hk; iexact H

/-- The same, the loop standing alone. -/
theorem wp_loop_alone (acc : FVec F S16 .f32) (Q : FVec F S16 .f32 → sProp 𝕄) :
    loopBufs d i mt mp mw ft fp fw
      ⊢ iprop((loopBufs d i mt mp mw ft fp fw
          -∗ Q (tripsVal v6 v12 (mt.view.read (Elt F) ft) (mp.view.read (Elt F) fp) (mw.view.read (Elt F) fw) acc 1024))
        -∗ wp frame (wpE (defs₀ (F := F)) 𝒱₀ (V d ((i 0).castLE hcore0) ((i 1).castLE hsub0)) none) Set.univ (loopProg i mt mp mw v6 v12 acc) Q) := by
  have h := wp_loop d i mt mp mw v6 v12 ft fp fw acc Prog.ret Q
  iintro H Hk
  rw [show loopProg i mt mp mw v6 v12 acc = loopProg i mt mp mw v6 v12 acc >>= Prog.ret from (Idealize.SL.Sem.Prog.bind_pure _).symm]
  iapply h $$ [H]
  · iexact H
  iintro H
  rw [wp_ret]; imodintro
  iapply Hk; iexact H

end Run

end Cert.Proof.KernelIdeal
-- ==== Proof.KernelIdeal.Value.lean ====
/-
  The value of one SparseCore tile as a function of the whole arrays: the seven chunks the tile reads, the running sums
  after each of them, and the 512 partial sums of all 32 tiles.
-/
module

public import proofs.«01_k».proof.Proof.KernelIdeal.Loop
public import Idealize.ShloMosaic.Lib.VecWindow

@[expose] public section

noncomputable section

namespace Cert.Proof.KernelIdeal

open Cert.KernelIdeal Cert.KernelIdeal.Gen
open Idealize.ShloMosaic

variable {F : FTy → Type} [FloatOps F]

/-! ## Tiles and their windows -/

/-- The coordinate pair of a SparseCore and a tile. -/
def coordsV (c : Fin (grid0.bound 0)) (s : Fin (grid0.bound 1)) : grid0.Coords := fun | 0 => c | 1 => s | ⟨_ + 2, h⟩ => absurd h (Nat.not_lt.2 (Nat.le_add_left _ _))

theorem coordsV_eta (L : grid0.Coords) : coordsV (L 0) (L 1) = L := by
  funext a
  match a with
  | 0 => rfl
  | 1 => rfl
  | ⟨_ + 2, h⟩ => exact absurd h (Nat.not_lt.2 (Nat.le_add_left _ _))

/-- The window of chunk `r` of a tile in the flat arrays. -/
abbrev chunkRect (L : grid0.Coords) (r : Fin 7) : Rect S8388608 :=
  Rect.unit (s := S8388608) (k0_off1 L (BitVec.ofNat 32 (16384 * r.val))) S16384.size (k0_off1_inb L r)
/-- The window of a tile in the partial sums. -/
abbrev outRect (L : grid0.Coords) : Rect S512 := Rect.unit (s := S512) (k0_off9 L) S16.size (k0_off9_inb L)

/-- Where a chunk's window begins. -/
theorem chunk_off (L : grid0.Coords) (r : Fin 7) :
    k0_off1 L (BitVec.ofNat 32 (16384 * r.val)) 0 = ((L 1).val * 2 + (L 0).val) * 114688 + 16384 * r.val := by
  revert r
  rw [← coordsV_eta L]
  generalize L 0 = c; generalize L 1 = s
  revert c s
  decide +kernel

/-- Where a tile's window in the partial sums begins. -/
theorem out_off (L : grid0.Coords) : k0_off9 L 0 = ((L 1).val * 2 + (L 0).val) * 16 := by
  rw [← coordsV_eta L]
  generalize L 0 = c; generalize L 1 = s
  revert c s
  decide +kernel

/-- Chunks of one tile do not overlap. -/
theorem chunk_disjoint (L : grid0.Coords) {r r' : Fin 7} (h : r ≠ r') : Disjoint (chunkRect L r).set (chunkRect L r').set := by
  refine Rect.unit_disjoint 0 ?_
  rw [chunk_off, chunk_off]
  have : r.val ≠ r'.val := fun e => h (Fin.ext e)
  show _ + 16384 ≤ _ ∨ _ + 16384 ≤ _
  omega

/-- Windows of two tiles in the partial sums do not overlap. -/
theorem out_disjoint {L L' : grid0.Coords} (h : L ≠ L') : Disjoint (outRect L).set (outRect L').set := by
  refine Rect.unit_disjoint 0 ?_
  rw [out_off, out_off]
  have h0 : (L 0).val < 2 := (L 0).isLt
  have h0' : (L' 0).val < 2 := (L' 0).isLt
  have : ¬ ((L 0).val = (L' 0).val ∧ (L 1).val = (L' 1).val) := fun e => h (by
    rw [← coordsV_eta L, ← coordsV_eta L', Fin.ext e.1, Fin.ext e.2])
  show _ + 16 ≤ _ ∨ _ + 16 ≤ _
  omega

/-! ## The sums -/

/-- Chunk `r` of a flat array, as a tile reads it. -/
def chunkVal (L : grid0.Coords) (f : S8388608.Idx → Elt F .f32) (r : Fin 7) : S16384.Idx → Elt F .f32 := fun x => f ((chunkRect L r).idx x)

/-- A tile's running sums after `n` chunks, from the flat predictions `cp` and targets `ct`, the padded weights `cw` and the padded edges `cb`. -/
def tileVal (L : grid0.Coords) (cp ct : S8388608.Idx → Elt F .f32) (cw cb : S16.Idx → Elt F .f32) : ℕ → FVec F S16 .f32
  | 0 => k0_pay9
  | n + 1 => if h : n < 7 then tripsVal (k0_pay7 cb) (k0_pay8 cb) (chunkVal L ct ⟨n, h⟩) (chunkVal L cp ⟨n, h⟩) cw (tileVal L cp ct cw cb n) 1024
      else tileVal L cp ct cw cb n

/-- The tile whose window holds an element of the partial sums. -/
def tileOf (x : S512.Idx) : grid0.Coords :=
  coordsV ⟨(x 0).val / 16 % 2, Nat.mod_lt _ (by decide)⟩ ⟨(x 0).val / 32, by have : (x 0).val < 512 := (x 0).isLt; show _ < 16; omega⟩
/-- Its place in that window. -/
def laneOf (x : S512.Idx) : S16.Idx := fun a => match a with | 0 => ⟨(x 0).val % 16, Nat.mod_lt _ (by decide)⟩

/-- The 512 partial sums. -/
def outVal (cp ct : S8388608.Idx → Elt F .f32) (cw cb : S16.Idx → Elt F .f32) : S512.Idx → Elt F .f32 :=
  fun x => tileVal (tileOf x) cp ct cw cb 7 (laneOf x)

theorem out_idx_val (L : grid0.Coords) (x : S16.Idx) : ((outRect L).idx x 0).val = ((L 1).val * 2 + (L 0).val) * 16 + (x 0).val := by
  rw [← out_off L]
  show k0_off9 L 0 + 1 * (x 0).val = _
  omega

theorem tileOf_out (L : grid0.Coords) (x : S16.Idx) : tileOf ((outRect L).idx x) = L := by
  have h0 : (L 0).val < 2 := (L 0).isLt
  have hx : (x 0).val < 16 := (x 0).isLt
  conv_rhs => rw [← coordsV_eta L]
  unfold tileOf
  congr 1 <;> apply Fin.ext <;> simp only [out_idx_val] <;> omega

theorem laneOf_out (L : grid0.Coords) (x : S16.Idx) : laneOf ((outRect L).idx x) = x := by
  have hx : (x 0).val < 16 := (x 0).isLt
  funext a
  match a with
  | 0 => apply Fin.ext; simp only [laneOf, out_idx_val]; omega

/-- A tile's window of the partial sums holds its running sums after all seven chunks. -/
theorem outVal_out (cp ct : S8388608.Idx → Elt F .f32) (cw cb : S16.Idx → Elt F .f32) (L : grid0.Coords) (x : S16.Idx) :
    outVal cp ct cw cb ((outRect L).idx x) = tileVal L cp ct cw cb 7 x := by
  unfold outVal; rw [tileOf_out, laneOf_out]

end Cert.Proof.KernelIdeal
-- ==== Proof.KernelIdeal.Tile.lean ====
/-
  The body of one SparseCore tile, run once at a symbolic (SparseCore, tile) pair: two copies bring the weight table and
  the edges, seven pairs of copies bring the tile's predictions and targets chunk by chunk into two pairs of buffers used
  in turn — the pair for the next chunk in flight while a loop reads the present one —, and one copy takes the 16 sums out.
-/
module

public import proofs.«01_k».proof.Proof.KernelIdeal.Value

@[expose] public section

noncomputable section

namespace Cert.Proof.KernelIdeal

open Cert.KernelIdeal Cert.KernelIdeal.Gen

open Idealize.ShloMosaic
open Idealize.ShloMosaic.SparseCore (V)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

/-! ## The operands, as the call passes them -/

/-- The flat predictions. -/
abbrev pV : Memref sig .scVector .hbm S8388608 .f32 := Memref.whole main_v0_scv
/-- The flat targets. -/
abbrev tV : Memref sig .scVector .hbm S8388608 .f32 := Memref.whole main_v1_scv
/-- The padded weight table. -/
abbrev wV : Memref sig .scVector .hbm S16 .f32 := Memref.whole main_v4_scv
/-- The padded edges. -/
abbrev bV : Memref sig .scVector .hbm S16 .f32 := Memref.whole main_v7_scv
/-- The tiles' 512 partial sums. -/
abbrev oV : Memref sig .scVector .hbm S512 .f32 := Memref.whole main_v8_scv
/-- The tile's first prediction buffer. -/
abbrev p0V : Memref sig .scVector .vmem S16384 .f32 := Memref.whole cc0_scratch0
/-- The tile's second prediction buffer. -/
abbrev p1V : Memref sig .scVector .vmem S16384 .f32 := Memref.whole cc0_scratch1
/-- The tile's first target buffer. -/
abbrev t0V : Memref sig .scVector .vmem S16384 .f32 := Memref.whole cc0_scratch2
/-- The tile's second target buffer. -/
abbrev t1V : Memref sig .scVector .vmem S16384 .f32 := Memref.whole cc0_scratch3
/-- The tile's weight table. -/
abbrev swV : Memref sig .scVector .vmem S16 .f32 := Memref.whole cc0_scratch4
/-- The tile's edges. -/
abbrev sbV : Memref sig .scVector .vmem S16 .f32 := Memref.whole cc0_scratch5
/-- The tile's 16 running sums. -/
abbrev saV : Memref sig .scVector .vmem S16 .f32 := Memref.whole cc0_scratch6

/-- The SparseCore and the tile of a coordinate pair. -/
abbrev cV (L : grid0.Coords) : Fin τ.nSC := (L 0).castLE hcore0
abbrev jV (L : grid0.Coords) : Fin τ.nSub := (L 1).castLE hsub0
/-- The tile's thread. -/
abbrev thrV (d : Dev nD) (L : grid0.Coords) : Thread nD τ := V d (cV L) (jV L)

/-- The tile's 16 elements of the partial sums. -/
abbrev oS (L : grid0.Coords) : Memref sig .scVector .hbm S16 .f32 :=
  (oV).slice (Rect.unit (s := S512) (k0_off9 L) S16.size (k0_off9_inb L)) (fun _ => rfl)
/-- The tile's chunk that starts `c` elements into its share of the predictions, and of the targets. -/
abbrev pS (L : grid0.Coords) (c : BitVec 32) (h : ∀ a, k0_off1 L c a + S16384.size a ≤ S8388608.size a) : Memref sig .scVector .hbm S16384 .f32 :=
  (pV).slice (Rect.unit (s := S8388608) (k0_off1 L c) S16384.size h) (fun _ => rfl)
abbrev tS (L : grid0.Coords) (c : BitVec 32) (h : ∀ a, k0_off1 L c a + S16384.size a ≤ S8388608.size a) : Memref sig .scVector .hbm S16384 .f32 :=
  (tV).slice (Rect.unit (s := S8388608) (k0_off1 L c) S16384.size h) (fun _ => rfl)

/-- The tile kernel at the operands the call passes. -/
def tileK (F : FTy → Type) [FloatOps F] (L : grid0.Coords) :
    Prog (TpuEff nD τ sig (Elt F) Λ₀ (.scVector ((L 0).castLE hcore0) ((L 1).castLE hsub0))) PUnit :=
  cc0_k L pV (Memref.isWhole_whole _) tV (Memref.isWhole_whole _) wV (Memref.isWhole_whole _) bV (Memref.isWhole_whole _) oV (Memref.isWhole_whole _) p0V (Memref.isWhole_whole _) p1V (Memref.isWhole_whole _) t0V (Memref.isWhole_whole _) t1V (Memref.isWhole_whole _) swV (Memref.isWhole_whole _) sbV (Memref.isWhole_whole _) saV (Memref.isWhole_whole _) cc0_scratch7 cc0_scratch8 cc0_scoped0 cc0_scoped1 cc0_scoped2

/-! ## Each printed loop is the one loop -/

theorem loop1_eq (L : grid0.Coords) (v3 : Vec F S16 .f32) (acc : FVec F S16 .f32) :
    Scf.Loop.for k0_t1_loop k0_t1_ok acc (k0_t1_body L pV (Memref.isWhole_whole _) tV (Memref.isWhole_whole _) wV (Memref.isWhole_whole _) bV (Memref.isWhole_whole _) oV (Memref.isWhole_whole _) p0V (Memref.isWhole_whole _) p1V (Memref.isWhole_whole _) t0V (Memref.isWhole_whole _) t1V (Memref.isWhole_whole _) swV (Memref.isWhole_whole _) sbV (Memref.isWhole_whole _) saV (Memref.isWhole_whole _) cc0_scratch7 cc0_scratch8 cc0_scoped0 cc0_scoped1 cc0_scoped2 v3)
      = loopProg L t0V p0V swV (k0_pay7 v3) (k0_pay8 v3) acc := rfl
theorem loop2_eq (L : grid0.Coords) (v2 : BitVec 32) (v6 v12 v29 acc : FVec F S16 .f32) :
    Scf.Loop.for k0_t2_loop k0_t2_ok acc (k0_t2_body L pV (Memref.isWhole_whole _) tV (Memref.isWhole_whole _) wV (Memref.isWhole_whole _) bV (Memref.isWhole_whole _) oV (Memref.isWhole_whole _) p0V (Memref.isWhole_whole _) p1V (Memref.isWhole_whole _) t0V (Memref.isWhole_whole _) t1V (Memref.isWhole_whole _) swV (Memref.isWhole_whole _) sbV (Memref.isWhole_whole _) saV (Memref.isWhole_whole _) cc0_scratch7 cc0_scratch8 cc0_scoped0 cc0_scoped1 cc0_scoped2 v2 v6 v12 v29)
      = loopProg L t1V p1V swV v6 v12 acc := rfl
theorem loop3_eq (L : grid0.Coords) (v2 : BitVec 32) (v6 v12 v29 acc : FVec F S16 .f32) :
    Scf.Loop.for k0_t3_loop k0_t3_ok acc (k0_t3_body L pV (Memref.isWhole_whole _) tV (Memref.isWhole_whole _) wV (Memref.isWhole_whole _) bV (Memref.isWhole_whole _) oV (Memref.isWhole_whole _) p0V (Memref.isWhole_whole _) p1V (Memref.isWhole_whole _) t0V (Memref.isWhole_whole _) t1V (Memref.isWhole_whole _) swV (Memref.isWhole_whole _) sbV (Memref.isWhole_whole _) saV (Memref.isWhole_whole _) cc0_scratch7 cc0_scratch8 cc0_scoped0 cc0_scoped1 cc0_scoped2 v2 v6 v12 v29)
      = loopProg L t0V p0V swV v6 v12 acc := rfl
theorem loop4_eq (L : grid0.Coords) (v2 : BitVec 32) (v6 v12 v29 acc : FVec F S16 .f32) :
    Scf.Loop.for k0_t4_loop k0_t4_ok acc (k0_t4_body L pV (Memref.isWhole_whole _) tV (Memref.isWhole_whole _) wV (Memref.isWhole_whole _) bV (Memref.isWhole_whole _) oV (Memref.isWhole_whole _) p0V (Memref.isWhole_whole _) p1V (Memref.isWhole_whole _) t0V (Memref.isWhole_whole _) t1V (Memref.isWhole_whole _) swV (Memref.isWhole_whole _) sbV (Memref.isWhole_whole _) saV (Memref.isWhole_whole _) cc0_scratch7 cc0_scratch8 cc0_scoped0 cc0_scoped1 cc0_scoped2 v2 v6 v12 v29)
      = loopProg L t1V p1V swV v6 v12 acc := rfl
theorem loop5_eq (L : grid0.Coords) (v6 v12 acc : FVec F S16 .f32) :
    Scf.Loop.for k0_t5_loop k0_t5_ok acc (k0_t5_body L pV (Memref.isWhole_whole _) tV (Memref.isWhole_whole _) wV (Memref.isWhole_whole _) bV (Memref.isWhole_whole _) oV (Memref.isWhole_whole _) p0V (Memref.isWhole_whole _) p1V (Memref.isWhole_whole _) t0V (Memref.isWhole_whole _) t1V (Memref.isWhole_whole _) swV (Memref.isWhole_whole _) sbV (Memref.isWhole_whole _) saV (Memref.isWhole_whole _) cc0_scratch7 cc0_scratch8 cc0_scoped0 cc0_scoped1 cc0_scoped2 v6 v12)
      = loopProg L t0V p0V swV v6 v12 acc := rfl
theorem loop6_eq (L : grid0.Coords) (v6 v12 acc : FVec F S16 .f32) :
    Scf.Loop.for k0_t6_loop k0_t6_ok acc (k0_t6_body L pV (Memref.isWhole_whole _) tV (Memref.isWhole_whole _) wV (Memref.isWhole_whole _) bV (Memref.isWhole_whole _) oV (Memref.isWhole_whole _) p0V (Memref.isWhole_whole _) p1V (Memref.isWhole_whole _) t0V (Memref.isWhole_whole _) t1V (Memref.isWhole_whole _) swV (Memref.isWhole_whole _) sbV (Memref.isWhole_whole _) saV (Memref.isWhole_whole _) cc0_scratch7 cc0_scratch8 cc0_scoped0 cc0_scoped1 cc0_scoped2 v6 v12)
      = loopProg L t1V p1V swV v6 v12 acc := rfl
theorem loop7_eq (L : grid0.Coords) (v6 v12 acc : FVec F S16 .f32) :
    Scf.Loop.for k0_t7_loop k0_t7_ok acc (k0_t7_body L pV (Memref.isWhole_whole _) tV (Memref.isWhole_whole _) wV (Memref.isWhole_whole _) bV (Memref.isWhole_whole _) oV (Memref.isWhole_whole _) p0V (Memref.isWhole_whole _) p1V (Memref.isWhole_whole _) t0V (Memref.isWhole_whole _) t1V (Memref.isWhole_whole _) swV (Memref.isWhole_whole _) sbV (Memref.isWhole_whole _) saV (Memref.isWhole_whole _) cc0_scratch7 cc0_scratch8 cc0_scoped0 cc0_scoped1 cc0_scoped2 v6 v12)
      = loopProg L t0V p0V swV v6 v12 acc := rfl

/-! ## The run -/

section Run

variable (d : Dev nD) (L : grid0.Coords)

/-- The seven chunks of the tile's predictions, and of its targets. -/
abbrev chunksP (q : PosShare TreeShare) (fP : Buf (Elt F) ((pV).view.loc (thrV d L))) : sProp 𝕄 :=
  iprop(((pS L 0#32 (k0_off1_inb L 0)).view.loc (thrV d L) ↦[(pS L 0#32 (k0_off1_inb L 0)).view.set]{q} fP) ∗ ((pS L 16384#32 (k0_off1_inb L 1)).view.loc (thrV d L) ↦[(pS L 16384#32 (k0_off1_inb L 1)).view.set]{q} fP) ∗ ((pS L 32768#32 (k0_off1_inb L 2)).view.loc (thrV d L) ↦[(pS L 32768#32 (k0_off1_inb L 2)).view.set]{q} fP) ∗ ((pS L 49152#32 (k0_off1_inb L 3)).view.loc (thrV d L) ↦[(pS L 49152#32 (k0_off1_inb L 3)).view.set]{q} fP) ∗ ((pS L 65536#32 (k0_off1_inb L 4)).view.loc (thrV d L) ↦[(pS L 65536#32 (k0_off1_inb L 4)).view.set]{q} fP) ∗ ((pS L 81920#32 (k0_off1_inb L 5)).view.loc (thrV d L) ↦[(pS L 81920#32 (k0_off1_inb L 5)).view.set]{q} fP) ∗ ((pS L 98304#32 (k0_off1_inb L 6)).view.loc (thrV d L) ↦[(pS L 98304#32 (k0_off1_inb L 6)).view.set]{q} fP))
abbrev chunksT (q : PosShare TreeShare) (fT : Buf (Elt F) ((tV).view.loc (thrV d L))) : sProp 𝕄 :=
  iprop(((tS L 0#32 (k0_off1_inb L 0)).view.loc (thrV d L) ↦[(tS L 0#32 (k0_off1_inb L 0)).view.set]{q} fT) ∗ ((tS L 16384#32 (k0_off1_inb L 1)).view.loc (thrV d L) ↦[(tS L 16384#32 (k0_off1_inb L 1)).view.set]{q} fT) ∗ ((tS L 32768#32 (k0_off1_inb L 2)).view.loc (thrV d L) ↦[(tS L 32768#32 (k0_off1_inb L 2)).view.set]{q} fT) ∗ ((tS L 49152#32 (k0_off1_inb L 3)).view.loc (thrV d L) ↦[(tS L 49152#32 (k0_off1_inb L 3)).view.set]{q} fT) ∗ ((tS L 65536#32 (k0_off1_inb L 4)).view.loc (thrV d L) ↦[(tS L 65536#32 (k0_off1_inb L 4)).view.set]{q} fT) ∗ ((tS L 81920#32 (k0_off1_inb L 5)).view.loc (thrV d L) ↦[(tS L 81920#32 (k0_off1_inb L 5)).view.set]{q} fT) ∗ ((tS L 98304#32 (k0_off1_inb L 6)).view.loc (thrV d L) ↦[(tS L 98304#32 (k0_off1_inb L 6)).view.set]{q} fT))

/-- What the run leaves: the operands unchanged, the tile's 16 partial sums, its buffers at some contents, its counters at zero. -/
abbrev tilePost (q : PosShare TreeShare) (O : CellTallies nD τ sig (HIx 1)) (W : Waits sig (HIx 1))
    (fP : Buf (Elt F) ((pV).view.loc (thrV d L))) (fT : Buf (Elt F) ((tV).view.loc (thrV d L)))
    (fW : Buf (Elt F) ((wV).view.loc (thrV d L))) (fB : Buf (Elt F) ((bV).view.loc (thrV d L))) : sProp 𝕄 :=
  iprop(chunksP d L q fP ∗ chunksT d L q fT
    ∗ ((wV).view.loc (thrV d L) ↦{q} fW) ∗ ((bV).view.loc (thrV d L) ↦{q} fB)
    ∗ ((oS L).view.loc (thrV d L) ↦[(oS L).view.set]{fullShare} outVal fP fT fW fB)
    ∗ (∃ g, (p0V).view.loc (thrV d L) ↦{fullShare} g) ∗ (∃ g, (p1V).view.loc (thrV d L) ↦{fullShare} g)
    ∗ (∃ g, (t0V).view.loc (thrV d L) ↦{fullShare} g) ∗ (∃ g, (t1V).view.loc (thrV d L) ↦{fullShare} g)
    ∗ (∃ g, (swV).view.loc (thrV d L) ↦{fullShare} g) ∗ (∃ g, (sbV).view.loc (thrV d L) ↦{fullShare} g)
    ∗ (∃ g, (saV).view.loc (thrV d L) ↦{fullShare} g)
    ∗ semVal (thrV d L, SemLoc.dma cc0_scratch7.sem) 0 ∗ semVal (thrV d L, SemLoc.dma cc0_scratch8.sem) 0
    ∗ semVal (thrV d L, SemLoc.dma cc0_scoped0.sem) 0 ∗ semVal (thrV d L, SemLoc.dma cc0_scoped1.sem) 0
    ∗ semVal (thrV d L, SemLoc.dma cc0_scoped2.sem) 0
    ∗ ∃ W', ⌜∀ p ∈ W', p ∈ W ∨ p.2 = none⌝ ∗ owes (thrV d L) O W')

/-- A window of the partial sums written whole with the tile's running sums holds the window of the 512 partial sums. -/
theorem out_written (fP fT : S8388608.Idx → Elt F .f32) (fW fB : S16.Idx → Elt F .f32) (fO : Buf (Elt F) ((oS L).view.loc (thrV d L)))
    (w : S16.Idx → Elt F .f32) (hw : w = tileVal L fP fT fW fB 7) :
    ((oS L).view.loc (thrV d L) ↦[(oS L).view.set]{fullShare} (oS L).view.writes (Elt F) fO [⟨Rect.whole S16, w⟩] : sProp 𝕄)
      = ((oS L).view.loc (thrV d L) ↦[(oS L).view.set]{fullShare} outVal fP fT fW fB) := by
  subst hw
  refine pointsTo_congr fun i hi => ?_
  obtain ⟨x, -, rfl⟩ := Finset.mem_map.mp hi
  have h := congrFun (View.read_writes_full (oS L).view fO (off := fun _ => 0) (fun a => by simp) (tileVal L fP fT fW fB 7) []) x
  exact h.trans (outVal_out fP fT fW fB L x).symm

set_option maxHeartbeats 4000000 in
theorem tile_run (q : PosShare TreeShare) (O : CellTallies nD τ sig (HIx 1)) (W : Waits sig (HIx 1))
    (fP : Buf (Elt F) ((pV).view.loc (thrV d L))) (fT : Buf (Elt F) ((tV).view.loc (thrV d L)))
    (fW : Buf (Elt F) ((wV).view.loc (thrV d L))) (fB : Buf (Elt F) ((bV).view.loc (thrV d L)))
    (fO : Buf (Elt F) ((oS L).view.loc (thrV d L)))
    (g0 : Buf (Elt F) ((p0V).view.loc (thrV d L))) (g1 : Buf (Elt F) ((p1V).view.loc (thrV d L)))
    (g2 : Buf (Elt F) ((t0V).view.loc (thrV d L))) (g3 : Buf (Elt F) ((t1V).view.loc (thrV d L)))
    (g4 : Buf (Elt F) ((swV).view.loc (thrV d L))) (g5 : Buf (Elt F) ((sbV).view.loc (thrV d L)))
    (g6 : Buf (Elt F) ((saV).view.loc (thrV d L)))
    (h14 : Transfers.BatchOf (thrV d L) (SemLoc.dma (sig := sig) cc0_scratch7.sem) 2)
    (h15 : Transfers.BatchOf (thrV d L) (SemLoc.dma (sig := sig) cc0_scratch8.sem) 2) :
    (iprop(Transfers.MayWaits (thrV d L) (none : HIx 1) O
        ∗ chunksP d L q fP ∗ chunksT d L q fT
        ∗ ((wV).view.loc (thrV d L) ↦{q} fW) ∗ ((bV).view.loc (thrV d L) ↦{q} fB)
        ∗ ((oS L).view.loc (thrV d L) ↦[(oS L).view.set]{fullShare} fO)
        ∗ ((p0V).view.loc (thrV d L) ↦{fullShare} g0) ∗ ((p1V).view.loc (thrV d L) ↦{fullShare} g1)
        ∗ ((t0V).view.loc (thrV d L) ↦{fullShare} g2) ∗ ((t1V).view.loc (thrV d L) ↦{fullShare} g3)
        ∗ ((swV).view.loc (thrV d L) ↦{fullShare} g4) ∗ ((sbV).view.loc (thrV d L) ↦{fullShare} g5)
        ∗ ((saV).view.loc (thrV d L) ↦{fullShare} g6)
        ∗ semVal (thrV d L, SemLoc.dma cc0_scratch7.sem) 0 ∗ semVal (thrV d L, SemLoc.dma cc0_scratch8.sem) 0
        ∗ semVal (thrV d L, SemLoc.dma cc0_scoped0.sem) 0 ∗ semVal (thrV d L, SemLoc.dma cc0_scoped1.sem) 0
        ∗ semVal (thrV d L, SemLoc.dma cc0_scoped2.sem) 0
        ∗ owes (thrV d L) O W) : sProp 𝕄)
      ⊢ wp frame (wpE (defs₀ (F := F)) 𝒱₀ (thrV d L) none) Set.univ
          (tileK F L)
          fun _ => tilePost d L q O W fP fT fW fB := by
  generalize hprog : tileK F L = prog
  iintro ⟨Hmw, ⟨Hp0, Hp1, Hp2, Hp3, Hp4, Hp5, Hp6⟩, ⟨Ht0, Ht1, Ht2, Ht3, Ht4, Ht5, Ht6⟩, Hw, Hb, Ho, H0, H1, H2, H3, H4, H5, H6, Hs14, Hs15, Hr0, Hr1, Hr2, HO⟩
  unfold tileK at hprog; simp only [cc0_k_eq_skeleton] at hprog; unfold cc0_k_skel at hprog
  simp only [k0_part1_eq_skeleton] at hprog; unfold k0_part1_skel at hprog
  simp only [k0_part2_eq_skeleton] at hprog; unfold k0_part2_skel at hprog
  simp only [Prog.lift, Prog.bind_op, Prog.bind_ret, Prog.pure_eq_ret, Prog.bind_assoc, loop1_eq, loop2_eq, loop3_eq, loop4_eq, loop5_eq, loop6_eq, loop7_eq] at hprog
  subst hprog
  sl_exec
  iapply (wp_loop_alone d L t0V p0V swV _ _ _ _ _ _ _) $$ [H2 H0 H4]
  · isplitl [H2]; · iexact H2
    isplitl [H0]; · iexact H0
    iexact H4
  iintro ⟨H2, H0, H4⟩
  sl_exec
  iapply (wp_loop_alone d L t1V p1V swV _ _ _ _ _ _ _) $$ [H3 H1 H4]
  · isplitl [H3]; · iexact H3
    isplitl [H1]; · iexact H1
    iexact H4
  iintro ⟨H3, H1, H4⟩
  sl_exec
  iapply (wp_loop_alone d L t0V p0V swV _ _ _ _ _ _ _) $$ [H2 H0 H4]
  · isplitl [H2]; · iexact H2
    isplitl [H0]; · iexact H0
    iexact H4
  iintro ⟨H2, H0, H4⟩
  sl_exec
  iapply (wp_loop_alone d L t1V p1V swV _ _ _ _ _ _ _) $$ [H3 H1 H4]
  · isplitl [H3]; · iexact H3
    isplitl [H1]; · iexact H1
    iexact H4
  iintro ⟨H3, H1, H4⟩
  sl_exec
  iapply (wp_loop_alone d L t0V p0V swV _ _ _ _ _ _ _) $$ [H2 H0 H4]
  · isplitl [H2]; · iexact H2
    isplitl [H0]; · iexact H0
    iexact H4
  iintro ⟨H2, H0, H4⟩
  sl_exec
  iapply (wp_loop_alone d L t1V p1V swV _ _ _ _ _ _ _) $$ [H3 H1 H4]
  · isplitl [H3]; · iexact H3
    isplitl [H1]; · iexact H1
    iexact H4
  iintro ⟨H3, H1, H4⟩
  sl_exec
  iapply (wp_loop_alone d L t0V p0V swV _ _ _ _ _ _ _) $$ [H2 H0 H4]
  · isplitl [H2]; · iexact H2
    isplitl [H0]; · iexact H0
    iexact H4
  iintro ⟨H2, H0, H4⟩
  sl_exec
  iclear Hmw
  have hval : tile_run.sl.dma2 d L fP fT fW fB g0 g1 g2 g3 g4 g5 g6 = tileVal L fP fT fW fB 7 := by
    have hb := View.readAt_full (sbV).view (View.write (Elt F) (sbV).view g5 (tile_run.sl.dma0_1 d L fB) Finset.univ) (off := ![0]) inb_S16_S16_0
    have hs := View.read_writes_full (saV).view g6 (off := ![0]) inb_S16_S16_0
    unfold tile_run.sl.dma2 tile_run.sl.H6_1
    rw [ReadAs.apply_same]
    refine (hs _ _).trans ?_
    rw [View.read_write_univ] at hb
    erw [hb]
    simp only [View.read_write_univ]
    rfl
  ihave Ho := (Entails.of_eq (out_written d L fP fT fW fB fO _ hval)) $$ Ho
  rw [wp_ret]; imodintro
  isplitl [Hp0 Hp1 Hp2 Hp3 Hp4 Hp5 Hp6]
  · isplitl [Hp0]; · iexact Hp0
    isplitl [Hp1]; · iexact Hp1
    isplitl [Hp2]; · iexact Hp2
    isplitl [Hp3]; · iexact Hp3
    isplitl [Hp4]; · iexact Hp4
    isplitl [Hp5]; · iexact Hp5
    iexact Hp6
  isplitl [Ht0 Ht1 Ht2 Ht3 Ht4 Ht5 Ht6]
  · isplitl [Ht0]; · iexact Ht0
    isplitl [Ht1]; · iexact Ht1
    isplitl [Ht2]; · iexact Ht2
    isplitl [Ht3]; · iexact Ht3
    isplitl [Ht4]; · iexact Ht4
    isplitl [Ht5]; · iexact Ht5
    iexact Ht6
  isplitl [Hw]; · iexact Hw
  isplitl [Hb]; · iexact Hb
  isplitl [Ho]; · iexact Ho
  isplitl [H0]; · iexists _; iexact H0
  isplitl [H1]; · iexists _; iexact H1
  isplitl [H2]; · iexists _; iexact H2
  isplitl [H3]; · iexists _; iexact H3
  isplitl [H4]; · iexists _; iexact H4
  isplitl [H5]; · iexists _; iexact H5
  isplitl [H6]; · iexists _; iexact H6
  isplitl [Hs14]; · iexact Hs14
  isplitl [Hs15]; · iexact Hs15
  isplitl [Hr0]; · iexact Hr0
  isplitl [Hr1]; · iexact Hr1
  isplitl [Hr2]; · iexact Hr2
  iexists _
  isplitr [HO]; swap; · iexact HO
  ipureintro
  intro p hp
  simp only [Finset.mem_insert] at hp
  rcases hp with h | h | h | h | h | h | h | h | h | h | h | h | h | h | h | h | h | h
  all_goals first | exact Or.inl h | exact Or.inr (h ▸ rfl)

end Run

end Cert.Proof.KernelIdeal
-- ==== Proof.KernelIdeal.Task.lean ====
/-
  The SparseCore call: what its handshakes carry, one tile's task from what the call hands it, and how a SparseCore's
  operands split among its sixteen tiles.
-/
module

public import proofs.«01_k».proof.Proof.KernelIdeal.Tile

@[expose] public section

noncomputable section

namespace Cert.Proof.KernelIdeal

open Cert.KernelIdeal Cert.KernelIdeal.Gen

open Idealize.ShloMosaic
open Idealize.ShloMosaic.SparseCore (V)
open Idealize.ShloMosaic.SparseCore.Cfg (HIx mem_ownCells ownSems0 ownBufs ownCells ownRefs)
open Idealize.ShloMosaic.ShareLeaves (leaf pointsTo_leaves)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type}

local notation "𝕄" => MT nD τ sig (HIx 1) (Elt F) ℕ UU ℕ

/-! ## What the handshakes carry -/

/-- The read share of a SparseCore: one half of the full share. -/
abbrev coreShare (c : Fin 2) : PosShare TreeShare := leaf 1 fullShare c
/-- The read share of a tile: one sixteenth of its SparseCore's. -/
abbrev tileShare (L : grid0.Coords) : PosShare TreeShare := leaf 4 (coreShare (L 0)) (L 1)

/-- The elements of the partial sums that a tile writes. -/
abbrev oSet (L : grid0.Coords) : Finset S512.Idx := (outRect L).set

/-- The four operands the call reads, at a share. -/
abbrev readPts (d : Dev nD) (q : PosShare TreeShare) (cp : Buf (Elt F) (pLoc d)) (ct : Buf (Elt F) (tLoc d)) (cw : Buf (Elt F) (wLoc d))
    (cb : Buf (Elt F) (bLoc d)) : sProp 𝕄 :=
  iprop((pLoc d ↦{q} cp) ∗ (tLoc d ↦{q} ct) ∗ (wLoc d ↦{q} cw) ∗ (bLoc d ↦{q} cb))

section Pay

variable (cp : (d : Dev nD) → Buf (Elt F) (pLoc d)) (ct : (d : Dev nD) → Buf (Elt F) (tLoc d)) (cw : (d : Dev nD) → Buf (Elt F) (wLoc d))
  (cb : (d : Dev nD) → Buf (Elt F) (bLoc d)) (co : (d : Dev nD) → Buf (Elt F) (oLoc d))

/-- A tile's part of the call: its share of the operands and its 16 elements of the partial sums, at contents `f`. -/
abbrev tilePts (f : (d : Dev nD) → Buf (Elt F) (oLoc d)) (d : Dev nD) (L : grid0.Coords) : sProp 𝕄 :=
  iprop(readPts d (tileShare L) (cp d) (ct d) (cw d) (cb d) ∗ (oLoc d ↦[oSet L]{fullShare} f d))
/-- A SparseCore's part: its share of the operands and its sixteen tiles' elements. -/
abbrev corePts (f : (d : Dev nD) → Buf (Elt F) (oLoc d)) (d : Dev nD) (c : Fin 2) : sProp 𝕄 :=
  iprop(readPts d (coreShare c) (cp d) (ct d) (cw d) (cb d) ∗ bigSep Finset.univ fun s : Fin 16 => (oLoc d ↦[oSet (coordsV c s)]{fullShare} f d))

variable [FloatOps F]

/-- The partial sums the call leaves. -/
abbrev sums (d : Dev nD) : Buf (Elt F) (oLoc d) := outVal (cp d) (ct d) (cw d) (cb d)

/-- The call takes the operands and the partial sums' old contents, and brings the operands back with the sums. -/
def P : (K (F := F)).Pay (nD := nD) (Val := Elt F) (Name := ℕ) (U := UU) where
  st := fun q d c => match q with | 0 => corePts cp ct cw cb co d c
  dn := fun q d c => match q with | 0 => corePts cp ct cw cb (sums cp ct cw cb) d c
  go := fun q d c i => match q with | 0 => tilePts cp ct cw cb co d (coordsV c i)
  td := fun q d c i => match q with | 0 => tilePts cp ct cw cb (sums cp ct cw cb) d (coordsV c i)
  x := fun _ _ => iprop(emp)

instance P_storable : (P cp ct cw cb co).IsStorable where
  st q d c := match q with | 0 => (inferInstance : BI.Storable (upEmb : UEmb _ 𝕄) (corePts cp ct cw cb co d c))
  dn q d c := match q with | 0 => (inferInstance : BI.Storable (upEmb : UEmb _ 𝕄) (corePts cp ct cw cb (sums cp ct cw cb) d c))
  go q d c i := match q with | 0 => (inferInstance : BI.Storable (upEmb : UEmb _ 𝕄) (tilePts cp ct cw cb co d (coordsV c i)))
  td q d c i := match q with | 0 => (inferInstance : BI.Storable (upEmb : UEmb _ 𝕄) (tilePts cp ct cw cb (sums cp ct cw cb) d (coordsV c i)))

end Pay

/-! ## A tile's chunks out of its share of an array -/

/-- A share of a location is its share of seven disjoint sets of elements and of the rest. -/
theorem chunks_split (q : PosShare TreeShare) (ℓ : Loc nD τ sig) (S : Fin 7 → Finset (Idx ℓ)) (hS : ∀ r r', r ≠ r' → Disjoint (S r) (S r'))
    (f : Buf (Elt F) ℓ) :
    (ℓ ↦{q} f : sProp 𝕄) ⊣⊢ iprop(((ℓ ↦[S 0]{q} f) ∗ (ℓ ↦[S 1]{q} f) ∗ (ℓ ↦[S 2]{q} f) ∗ (ℓ ↦[S 3]{q} f) ∗ (ℓ ↦[S 4]{q} f) ∗ (ℓ ↦[S 5]{q} f) ∗ (ℓ ↦[S 6]{q} f))
      ∗ (ℓ ↦[Finset.univ \ Finset.univ.biUnion S]{q} f)) := by
  have h := pointsTo_split_subset (ℓ := ℓ) (q := q) (f := f) (Ix := HIx 1) (Name := ℕ) (U := UU) (Lvl := ℕ) (Finset.subset_univ (Finset.univ.biUnion S))
  rw [pointsTo_biUnion Finset.univ S fun r _ r' _ h => hS r r' h, show (Finset.univ : Finset (Fin 7)) = {0, 1, 2, 3, 4, 5, 6} by decide,
    SparseCore.bigSep_insert' (by decide), SparseCore.bigSep_insert' (by decide), SparseCore.bigSep_insert' (by decide),
    SparseCore.bigSep_insert' (by decide), SparseCore.bigSep_insert' (by decide), SparseCore.bigSep_insert' (by decide), bigSep_singleton] at h
  exact h

/-- The elements of chunk `r` of a tile. -/
abbrev chunkSet (L : grid0.Coords) (r : Fin 7) : Finset S8388608.Idx := (chunkRect L r).set

/-- A list of distinct members comes out of a separating product. -/
theorem bigSep_take {I : Type} [DecidableEq I] (Φ : I → sProp 𝕄) (l : List I) (hl : l.Nodup) (S : Finset I) (hS : ∀ i ∈ l, i ∈ S) :
    bigSep S Φ = l.foldr (fun i R => iprop(Φ i ∗ R)) (bigSep (S \ l.toFinset) Φ) := by
  induction l generalizing S with
  | nil => rw [List.toFinset_nil, Finset.sdiff_empty]; rfl
  | cons i l ih =>
    have hi := List.nodup_cons.mp hl
    rw [SparseCore.bigSep_erase' (hS i List.mem_cons_self), ih hi.2 (S.erase i) fun j hj => Finset.mem_erase.mpr
      ⟨fun e => hi.1 (e ▸ hj), hS j (List.mem_cons_of_mem _ hj)⟩, List.foldr_cons, List.toFinset_cons,
      show S.erase i \ l.toFinset = S \ insert i l.toFinset by ext x; simp only [Finset.mem_sdiff, Finset.mem_erase, Finset.mem_insert]; tauto]

section Tile

variable (d : Dev nD) (L : grid0.Coords)

/-- The seven chunks of the predictions that the run takes are those of the tile's share, and so are the targets'. -/
theorem chunksP_eq (q : PosShare TreeShare) (f : Buf (Elt F) (pLoc d)) :
    chunksP d L q f = (iprop((pLoc d ↦[chunkSet L 0]{q} f) ∗ (pLoc d ↦[chunkSet L 1]{q} f) ∗ (pLoc d ↦[chunkSet L 2]{q} f) ∗ (pLoc d ↦[chunkSet L 3]{q} f)
      ∗ (pLoc d ↦[chunkSet L 4]{q} f) ∗ (pLoc d ↦[chunkSet L 5]{q} f) ∗ (pLoc d ↦[chunkSet L 6]{q} f)) : sProp 𝕄) := by
  have h : ∀ r, ((pV).slice (chunkRect L r) (fun _ => rfl)).view.set = chunkSet L r := fun r => by
    show ((View.whole (main_v0_scv : Ref sig .scVector)).slice (chunkRect L r)).set = _
    rw [View.set_slice]; exact Finset.map_refl
  rw [← h 0, ← h 1, ← h 2, ← h 3, ← h 4, ← h 5, ← h 6]; rfl
theorem chunksT_eq (q : PosShare TreeShare) (f : Buf (Elt F) (tLoc d)) :
    chunksT d L q f = (iprop((tLoc d ↦[chunkSet L 0]{q} f) ∗ (tLoc d ↦[chunkSet L 1]{q} f) ∗ (tLoc d ↦[chunkSet L 2]{q} f) ∗ (tLoc d ↦[chunkSet L 3]{q} f)
      ∗ (tLoc d ↦[chunkSet L 4]{q} f) ∗ (tLoc d ↦[chunkSet L 5]{q} f) ∗ (tLoc d ↦[chunkSet L 6]{q} f)) : sProp 𝕄) := by
  have h : ∀ r, ((tV).slice (chunkRect L r) (fun _ => rfl)).view.set = chunkSet L r := fun r => by
    show ((View.whole (main_v1_scv : Ref sig .scVector)).slice (chunkRect L r)).set = _
    rw [View.set_slice]; exact Finset.map_refl
  rw [← h 0, ← h 1, ← h 2, ← h 3, ← h 4, ← h 5, ← h 6]; rfl

/-- The tile's elements of the partial sums are what its slice holds. -/
theorem pts_out (f : Buf (Elt F) (oLoc d)) :
    ((oS L).view.loc (thrV d L) ↦[(oS L).view.set]{fullShare} f : sProp 𝕄) = (oLoc d ↦[oSet L]{fullShare} f) := by
  have h : (oS L).view.set = oSet L := by
    show ((View.whole (main_v8_scv : Ref sig .scVector)).slice (outRect L)).set = _
    rw [View.set_slice]; exact Finset.map_refl
  rw [h]

/-! ## The tile's own counters and buffers -/

abbrev semA (d : Dev nD) (c : Fin τ.nSC) (i : Fin τ.nSub) : GSem nD τ sig := (V d c i, .dma cc0_scratch7.sem)
abbrev semB (d : Dev nD) (c : Fin τ.nSC) (i : Fin τ.nSub) : GSem nD τ sig := (V d c i, .dma cc0_scratch8.sem)
abbrev semC (d : Dev nD) (c : Fin τ.nSC) (i : Fin τ.nSub) : GSem nD τ sig := (V d c i, .dma cc0_scoped0.sem)
abbrev semD (d : Dev nD) (c : Fin τ.nSC) (i : Fin τ.nSub) : GSem nD τ sig := (V d c i, .dma cc0_scoped1.sem)
abbrev semE (d : Dev nD) (c : Fin τ.nSC) (i : Fin τ.nSub) : GSem nD τ sig := (V d c i, .dma cc0_scoped2.sem)

/-- The tile's five counters are among its own: they are them, at zero, and the rest. -/
theorem ownSems0_V :
    ∃ R : sProp 𝕄, (ownSems0 (thrV d L) : sProp 𝕄)
      = iprop(semVal (semA d (cV L) (jV L)) 0 ∗ semVal (semB d (cV L) (jV L)) 0 ∗ semVal (semC d (cV L) (jV L)) 0
          ∗ semVal (semD d (cV L) (jV L)) 0 ∗ semVal (semE d (cV L) (jV L)) 0 ∗ R) := by
  refine ⟨_, bigSep_take (fun g : GSem nD τ sig => semVal g 0)
    (([cc0_scratch7.sem, cc0_scratch8.sem, cc0_scoped0.sem, cc0_scoped1.sem, cc0_scoped2.sem] : List (DmaSem sig)).map fun s => ((thrV d L, SemLoc.dma s) : GSem nD τ sig))
    (List.Nodup.map (fun s s' e => SemLoc.dma.inj (Prod.ext_iff.mp e).2) (by decide)) (ownCells (thrV d L)) fun g hg => ?_⟩
  obtain ⟨s, hs, rfl⟩ := List.mem_map.mp hg
  exact mem_ownCells.mpr ⟨rfl, (show ∀ s ∈ ([cc0_scratch7.sem, cc0_scratch8.sem, cc0_scoped0.sem, cc0_scoped1.sem, cc0_scoped2.sem] : List (DmaSem sig)),
    (SemLoc.dma s : SemLoc sig).isScoped .scVector = true by decide) s hs⟩

/-- The tile's seven buffers are among its own: they are them, at some contents, and the rest. -/
theorem ownBufs_V :
    ∃ R : sProp 𝕄, (ownBufs (thrV d L) : sProp 𝕄)
      = iprop((∃ f, (thrV d L).loc cc0_scratch0 ↦{fullShare} f) ∗ (∃ f, (thrV d L).loc cc0_scratch1 ↦{fullShare} f) ∗ (∃ f, (thrV d L).loc cc0_scratch2 ↦{fullShare} f)
          ∗ (∃ f, (thrV d L).loc cc0_scratch3 ↦{fullShare} f) ∗ (∃ f, (thrV d L).loc cc0_scratch4 ↦{fullShare} f) ∗ (∃ f, (thrV d L).loc cc0_scratch5 ↦{fullShare} f)
          ∗ (∃ f, (thrV d L).loc cc0_scratch6 ↦{fullShare} f) ∗ R) := by
  refine ⟨_, bigSep_take (fun b : DevRef τ sig => iprop(∃ f, ((d, b) : Loc nD τ sig) ↦{fullShare} f))
    (([cc0_scratch0, cc0_scratch1, cc0_scratch2, cc0_scratch3, cc0_scratch4, cc0_scratch5, cc0_scratch6] : List (Ref sig .scVector)).map
      fun b => (Proc.scVector (cV L) (jV L)).devRef b)
    (List.Nodup.map (Proc.devRef_injective _) (show ([cc0_scratch0, cc0_scratch1, cc0_scratch2, cc0_scratch3, cc0_scratch4, cc0_scratch5, cc0_scratch6] : List (Ref sig .scVector)).Nodup by decide))
    (ownRefs (τ := τ) (.scVector (cV L) (jV L))) fun g hg => ?_⟩
  obtain ⟨b, hb, rfl⟩ := List.mem_map.mp hg
  refine SparseCore.Cfg.mem_ownRefs_of_owner (p := Proc.scVector (cV L) (jV L)) ?_
  simp only [List.mem_cons, List.not_mem_nil, _root_.or_false] at hb
  rcases hb with rfl | rfl | rfl | rfl | rfl | rfl | rfl <;> rfl

/-! ## The task -/

variable [FloatOps F]

variable (cp : (d : Dev nD) → Buf (Elt F) (pLoc d)) (ct : (d : Dev nD) → Buf (Elt F) (tLoc d)) (cw : (d : Dev nD) → Buf (Elt F) (wLoc d))
  (cb : (d : Dev nD) → Buf (Elt F) (bLoc d)) (co : (d : Dev nD) → Buf (Elt F) (oLoc d))

/-- A tile's task: from its part of the call and its own scratch, the run leaves its 16 partial sums, the operands and the
    scratch handed back. -/
theorem tile_body (O : CellTallies nD τ sig (HIx 1)) (W : Waits sig (HIx 1)) (hO : ∀ g, O g none = 0) :
    (iprop(levAts (K (F := F)).L (K (F := F)).lev ∗ emp ∗ tilePts cp ct cw cb co d L
        ∗ scopedBufs (thrV d L) ∗ scopedSems0 (thrV d L) ∗ owes (thrV d L) O W) : sProp 𝕄)
      ⊢ wp frame (wpE (defs₀ (F := F)) 𝒱₀ (thrV d L) none) Set.univ (tileK F L)
          fun _ => iprop(tilePts cp ct cw cb (sums cp ct cw cb) d L
            ∗ scopedBufs (thrV d L) ∗ scopedSems0 (thrV d L) ∗ ∃ W', ⌜∀ p ∈ W', p ∈ W ∨ p.2 = none⌝ ∗ owes (thrV d L) O W') := by
  obtain ⟨RS, hRS⟩ := ownSems0_V (F := F) d L
  obtain ⟨RB, hRB⟩ := ownBufs_V (F := F) d L
  have hdisj : ∀ r r', r ≠ r' → Disjoint (chunkSet L r) (chunkSet L r') := fun _ _ h => chunk_disjoint L h
  rw [(K (F := F)).scopedBufs_V facts d (cV L) (jV L), SparseCore.Cfg.scopedSems0_V (Val := Elt F) d (cV L) (jV L), hRS, hRB]
  iintro ⟨#Hlv, -, ⟨⟨Hp, Ht, Hw, Hb⟩, Ho⟩, ⟨⟨%g0, H0⟩, ⟨%g1, H1⟩, ⟨%g2, H2⟩, ⟨%g3, H3⟩, ⟨%g4, H4⟩, ⟨%g5, H5⟩, ⟨%g6, H6⟩, HB⟩, ⟨HA, HBs, HC, HD, HE, HS⟩, HO⟩
  ihave Hmw := (show levAts (K (F := F)).L (K (F := F)).lev ⊢ Transfers.MayWaits (thrV d L) (default : HIx 1) O from
    (K (F := F)).mayWaits_none (thr := thrV d L) hO) $$ Hlv
  ihave Hp := (chunks_split (tileShare L) (pLoc d) (chunkSet L) hdisj (cp d)).1 $$ Hp
  icases Hp with ⟨Hp, Hpr⟩
  ihave Ht := (chunks_split (tileShare L) (tLoc d) (chunkSet L) hdisj (ct d)).1 $$ Ht
  icases Ht with ⟨Ht, Htr⟩
  ihave Hp := (Entails.of_eq (chunksP_eq d L (tileShare L) (cp d)).symm) $$ Hp
  ihave Ht := (Entails.of_eq (chunksT_eq d L (tileShare L) (ct d)).symm) $$ Ht
  ihave Ho := (Entails.of_eq (pts_out d L (co d)).symm) $$ Ho
  ihave Hrun := (tile_run d L (tileShare L) O W (cp d) (ct d) (cw d) (cb d) (co d) g0 g1 g2 g3 g4 g5 g6 trivial trivial) $$ [Hmw Hp Ht Hw Hb Ho H0 H1 H2 H3 H4 H5 H6 HA HBs HC HD HE HO]
  · isplitl [Hmw]; · iexact Hmw
    isplitl [Hp]; · iexact Hp
    isplitl [Ht]; · iexact Ht
    isplitl [Hw]; · iexact Hw
    isplitl [Hb]; · iexact Hb
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HA]; · iexact HA
    isplitl [HBs]; · iexact HBs
    isplitl [HC]; · iexact HC
    isplitl [HD]; · iexact HD
    isplitl [HE]; · iexact HE
    iexact HO
  iapply (wp_wand frame (wpE (defs₀ (F := F)) 𝒱₀ (thrV d L) none) Set.univ) $$ Hrun
  iintro %_u ⟨Hp, Ht, Hw, Hb, Ho, H0, H1, H2, H3, H4, H5, H6, HA, HBs, HC, HD, HE, HO⟩
  ihave Hp := (Entails.of_eq (chunksP_eq d L (tileShare L) (cp d))) $$ Hp
  ihave Ht := (Entails.of_eq (chunksT_eq d L (tileShare L) (ct d))) $$ Ht
  ihave Ho := (Entails.of_eq (pts_out d L (sums cp ct cw cb d))) $$ Ho
  ihave Hp := (chunks_split (tileShare L) (pLoc d) (chunkSet L) hdisj (cp d)).2 $$ [Hp Hpr]
  · isplitl [Hp]; · iexact Hp
    iexact Hpr
  ihave Ht := (chunks_split (tileShare L) (tLoc d) (chunkSet L) hdisj (ct d)).2 $$ [Ht Htr]
  · isplitl [Ht]; · iexact Ht
    iexact Htr
  isplitl [Hp Ht Hw Hb Ho]
  · isplitl [Hp Ht Hw Hb]
    · isplitl [Hp]; · iexact Hp
      isplitl [Ht]; · iexact Ht
      isplitl [Hw]; · iexact Hw
      iexact Hb
    iexact Ho
  isplitl [H0 H1 H2 H3 H4 H5 H6 HB]
  · isplitl [H0]; · iexact H0
    isplitl [H1]; · iexact H1
    isplitl [H2]; · iexact H2
    isplitl [H3]; · iexact H3
    isplitl [H4]; · iexact H4
    isplitl [H5]; · iexact H5
    isplitl [H6]; · iexact H6
    iexact HB
  isplitl [HA HBs HC HD HE HS]
  · isplitl [HA]; · iexact HA
    isplitl [HBs]; · iexact HBs
    isplitl [HC]; · iexact HC
    isplitl [HD]; · iexact HD
    isplitl [HE]; · iexact HE
    iexact HS
  iexact HO

/-- The tile's body under the call's label. -/
theorem defs₀_vector (c : Fin τ.nSC) (s : Fin τ.nSub) :
    defs₀ (F := F) (.scVector c s) 0 ()
      = SparseCore.onTile hcore0 hsub0 (fun c s => tileK F (coordsV c s)) ⟨⟩ c s := rfl

/-- The body's waits, weakened to what the launch asks. -/
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
/-- Every tile of the call meets its obligation. -/
theorem tileObl : (K (F := F)).TileObl (D (F := F)) 𝒱 (P cp ct cw cb co) v₀ 0 := by
  intro d c i O W hO _ _
  simp only [show (P cp ct cw cb co).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body d (coordsV ⟨_, hci.1⟩ ⟨_, hci.2⟩) cp ct cw cb co O W hO).trans (wp_mono frame _ _ fun _ => obl_post)

/-! ## How a SparseCore's operands split among its tiles -/

theorem readPts_split (d : Dev nD) (c : Fin 2) (fp : Buf (Elt F) (pLoc d)) (ft : Buf (Elt F) (tLoc d)) (fw : Buf (Elt F) (wLoc d)) (fb : Buf (Elt F) (bLoc d)) :
    (readPts d (coreShare c) fp ft fw fb : sProp 𝕄) = bigSep Finset.univ fun s : Fin 16 => readPts d (tileShare (coordsV c s)) fp ft fw fb := by
  rw [bigSep_sep', bigSep_sep', bigSep_sep']
  unfold readPts
  rw [pointsTo_leaves Finset.univ fp 4 (coreShare c), pointsTo_leaves Finset.univ ft 4 (coreShare c), pointsTo_leaves Finset.univ fw 4 (coreShare c),
    pointsTo_leaves Finset.univ fb 4 (coreShare c)]
  rfl

theorem corePts_split (f : (d : Dev nD) → Buf (Elt F) (oLoc d)) (d : Dev nD) (c : Fin 2) :
    (corePts cp ct cw cb f d c : sProp 𝕄) = bigSep Finset.univ fun s : Fin 16 => tilePts cp ct cw cb f d (coordsV c s) := by
  rw [bigSep_sep']
  unfold corePts
  rw [readPts_split]

/-- A SparseCore's operands are its tiles' parts, and so are its results. -/
theorem vecSplit : (K (F := F)).VecSplit' (P cp ct cw cb co) 0 := by
  intro d c
  show corePts cp ct cw cb co d c ⊢ |={Set.univ}=> iprop((bigSep Finset.univ fun s : Fin 16 => tilePts cp ct cw cb co d (coordsV c s))
      ∗ ((bigSep Finset.univ fun s : Fin 16 => tilePts cp ct cw cb (sums cp ct cw cb) d (coordsV c s)) -∗ corePts cp ct cw cb (sums cp ct cw cb) d c))
  rw [corePts_split, corePts_split]
  iintro H; imodintro
  isplitl [H]; · iexact H
  iintro H; iexact H

end Tile

end Cert.Proof.KernelIdeal
-- ==== Proof.KernelIdeal.TckBody.lean ====
/-
  The TensorCore kernel's body at one grid point: what it leaves in the accumulator's buffer, as a function of the two
  tables, the two blocks and what the accumulator held.
-/
module

public import proofs.«01_k».proof.Proof.KernelIdeal.Common
public import Idealize.ShloMosaic.Lib.Pipeline.FrameBody
public import Idealize.ShloMosaic.Lib.Pipeline.Value
public import Idealize.ShloMosaic.Lib.VecWindow

@[expose] public section

noncomputable section

namespace Cert.Proof.KernelIdeal

open Cert.KernelIdeal Cert.KernelIdeal.Gen

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-- A memref's buffer on the TensorCore of device `c`, held whole at `f`. -/
abbrev bufPts (c : Dev nD) {sp : Space} {S : Shape} {e : EltTy} (M : Memref sig .tc sp S e) (f : Buf (Elt F) (M.view.loc (c : Thread nD τ))) : sProp 𝕄 :=
  M.view.loc (c : Thread nD τ) ↦{fullShare} f

/-- The kernel at the first grid point is the one that clears the accumulator. -/
abbrev First (i : grid1.Coords) : Prop := Scalar.cmpi .ne (Scalar.extui (Scalar.cmpi .eq (BitVec.ofNat 32 (i 0).val) 0#32) : BitVec 32) 0#32 = 1#1

variable (c : Dev nD) (i : grid1.Coords) (M1 : Memref sig .tc .smem S11 .f32) (h1 : M1.IsWhole) (M2 : Memref sig .tc .smem S10 .f32) (h2 : M2.IsWhole)
  (M3 : Memref sig .tc .vmem S4096x128 .f32) (h3 : M3.IsWhole) (M4 : Memref sig .tc .vmem S4096x128 .f32) (h4 : M4.IsWhole)
  (M5 : Memref sig .tc .vmem S8x128 .f32) (h5 : M5.IsWhole)
  (x1 : S11.Idx → Elt F .f32) (x2 : S10.Idx → Elt F .f32) (x3 x4 : Vec F S4096x128 .f32) (x5 : Vec F S8x128 .f32)

/-- A later point's run, with what it leaves in the accumulator's buffer. -/
def laterRun (hi : ¬ First i) : { W : Buf (Elt F) (M5.view.loc (c : Thread nD τ)) // ∀ (E : Set ℕ) (Q : PUnit → sProp 𝕄),
    iprop(bufPts c M1 (h1.unread x1) ∗ bufPts c M2 (h2.unread x2) ∗ bufPts c M3 (h3.unread x3) ∗ bufPts c M4 (h4.unread x4) ∗ bufPts c M5 (h5.unread x5)
        ∗ (iprop(bufPts c M1 (h1.unread x1) ∗ bufPts c M2 (h2.unread x2) ∗ bufPts c M3 (h3.unread x3) ∗ bufPts c M4 (h4.unread x4) ∗ bufPts c M5 W) -∗ Q ⟨⟩))
      ⊢ wp frame (wpE (defs₀ (F := F)) 𝒱₀ c none) E (cc1_tck i M1 h1 M2 h2 M3 h3 M4 h4 M5 h5) Q } := by
  refine ⟨?_, fun E Q => ?run⟩
  case run =>
    rw [cc1_tck_eq_skeleton]
    unfold cc1_tck_skel
    rw [k1_part1_eq_skeleton]
    unfold k1_part1_skel
    rw [dif_neg hi]
    iintro ⟨H1, H2, H3, H4, H5, Hk⟩
    sl_exec!
    sl_step
    iapply Hk
    isplitl [H1]; · iexact H1
    isplitl [H2]; · iexact H2
    isplitl [H3]; · iexact H3
    isplitl [H4]; · iexact H4
    iexact H5

/-- The first point's. -/
def firstRun (hi : First i) : { W : Buf (Elt F) (M5.view.loc (c : Thread nD τ)) // ∀ (E : Set ℕ) (Q : PUnit → sProp 𝕄),
    iprop(bufPts c M1 (h1.unread x1) ∗ bufPts c M2 (h2.unread x2) ∗ bufPts c M3 (h3.unread x3) ∗ bufPts c M4 (h4.unread x4) ∗ bufPts c M5 (h5.unread x5)
        ∗ (iprop(bufPts c M1 (h1.unread x1) ∗ bufPts c M2 (h2.unread x2) ∗ bufPts c M3 (h3.unread x3) ∗ bufPts c M4 (h4.unread x4) ∗ bufPts c M5 W) -∗ Q ⟨⟩))
      ⊢ wp frame (wpE (defs₀ (F := F)) 𝒱₀ c none) E (cc1_tck i M1 h1 M2 h2 M3 h3 M4 h4 M5 h5) Q } := by
  refine ⟨?_, fun E Q => ?run⟩
  case run =>
    rw [cc1_tck_eq_skeleton]
    unfold cc1_tck_skel
    rw [k1_part1_eq_skeleton]
    unfold k1_part1_skel
    rw [dif_pos hi]
    iintro ⟨H1, H2, H3, H4, H5, Hk⟩
    sl_exec!
    sl_step
    iapply Hk
    isplitl [H1]; · iexact H1
    isplitl [H2]; · iexact H2
    isplitl [H3]; · iexact H3
    isplitl [H4]; · iexact H4
    iexact H5

/-- Entry `k` of the bin edges, of the bin weights. -/
def edgeAt (k : ℕ) (hk : k < 11) : S11.Idx := fun a => ⟨k, by match a with | ⟨0, _⟩ => exact hk⟩
def weightAt (k : ℕ) (hk : k < 10) : S10.Idx := fun a => ⟨k, by match a with | ⟨0, _⟩ => exact hk⟩

/-- One point's sum: the accumulator and the weighted squared differences of the point's block. -/
def tckStep : FVec F S8x128 .f32 :=
  k1_pay1 (k1_pay3 x3) (k1_pay4 x4)
    (k1_pay5 x4 (x2 (weightAt 0 (by decide))) (x1 (edgeAt 1 (by decide))) (x2 (weightAt 1 (by decide))) (x1 (edgeAt 2 (by decide))) (x2 (weightAt 2 (by decide)))
      (x1 (edgeAt 3 (by decide))) (x2 (weightAt 3 (by decide))) (x1 (edgeAt 4 (by decide))) (x2 (weightAt 4 (by decide))) (x1 (edgeAt 5 (by decide))) (x2 (weightAt 5 (by decide))))
    (x1 (edgeAt 6 (by decide))) (x2 (weightAt 6 (by decide))) (x1 (edgeAt 7 (by decide))) (x2 (weightAt 7 (by decide)))
    (x1 (edgeAt 8 (by decide))) (x2 (weightAt 8 (by decide))) (x1 (edgeAt 9 (by decide))) (x2 (weightAt 9 (by decide))) x5

theorem zeroes : (![0, 0] : Fin 2 → Nat) = fun _ => 0 := funext fun a => by fin_cases a <;> rfl

/-- A load of one entry of a table reads that entry. -/
theorem ld_edge (x : S11.Idx → Elt F .f32) (k : ℕ) (hk : k < 11) (inb : ∀ a, (![k] : Fin 1 → ℕ) a + S1.size a ≤ S11.size a) (j : S1.Idx) :
    View.ld (Val := Elt F) (e' := .f32) x (Rect.unit (s := S11) ![k] S1.size inb) j = x (edgeAt k hk) :=
  congrArg x (funext fun a => Fin.ext (by
    match a with
    | ⟨0, _⟩ =>
      have hj : (j 0).val < 1 := (j 0).isLt
      show k + 1 * (j 0).val = k
      omega))

theorem ld_weight (x : S10.Idx → Elt F .f32) (k : ℕ) (hk : k < 10) (inb : ∀ a, (![k] : Fin 1 → ℕ) a + S1.size a ≤ S10.size a) (j : S1.Idx) :
    View.ld (Val := Elt F) (e' := .f32) x (Rect.unit (s := S10) ![k] S1.size inb) j = x (weightAt k hk) :=
  congrArg x (funext fun a => Fin.ext (by
    match a with
    | ⟨0, _⟩ =>
      have hj : (j 0).val < 1 := (j 0).isLt
      show k + 1 * (j 0).val = k
      omega))

theorem laterRun_read (hi : ¬ First i) : M5.view.read (Elt F) (laterRun c i M1 h1 M2 h2 M3 h3 M4 h4 M5 h5 x1 x2 x3 x4 x5 hi).1 = tckStep x1 x2 x3 x4 x5 := by
  unfold laterRun
  dsimp only
  sl_unfold_words
  rw [View.read_writes_full]
  unfold tckStep
  simp only [View.readAt_eq_ld, h1.read_unread, h2.read_unread, h3.read_unread, h4.read_unread, h5.read_unread,
    View.ld_unit_zero (S := S4096x128) zeroes, View.ld_unit_zero (S := S8x128) zeroes]
  simp only [ld_edge x1 1 (by decide), ld_edge x1 2 (by decide), ld_edge x1 3 (by decide), ld_edge x1 4 (by decide), ld_edge x1 5 (by decide),
    ld_edge x1 6 (by decide), ld_edge x1 7 (by decide), ld_edge x1 8 (by decide), ld_edge x1 9 (by decide),
    ld_weight x2 0 (by decide), ld_weight x2 1 (by decide), ld_weight x2 2 (by decide), ld_weight x2 3 (by decide), ld_weight x2 4 (by decide), ld_weight x2 5 (by decide),
    ld_weight x2 6 (by decide), ld_weight x2 7 (by decide), ld_weight x2 8 (by decide), ld_weight x2 9 (by decide)]

theorem firstRun_read (hi : First i) : M5.view.read (Elt F) (firstRun c i M1 h1 M2 h2 M3 h3 M4 h4 M5 h5 x1 x2 x3 x4 x5 hi).1 = tckStep x1 x2 x3 x4 k1_pay2 := by
  unfold firstRun
  dsimp only
  sl_unfold_words
  rw [View.read_writes_full]
  unfold tckStep
  simp only [View.readAt_eq_ld, h1.read_unread, h2.read_unread, h3.read_unread, h4.read_unread,
    View.ld_unit_zero (S := S4096x128) zeroes, View.readCov_unit_zero (S := S8x128) _ zeroes]
  simp only [ld_edge x1 1 (by decide), ld_edge x1 2 (by decide), ld_edge x1 3 (by decide), ld_edge x1 4 (by decide), ld_edge x1 5 (by decide),
    ld_edge x1 6 (by decide), ld_edge x1 7 (by decide), ld_edge x1 8 (by decide), ld_edge x1 9 (by decide),
    ld_weight x2 0 (by decide), ld_weight x2 1 (by decide), ld_weight x2 2 (by decide), ld_weight x2 3 (by decide), ld_weight x2 4 (by decide), ld_weight x2 5 (by decide),
    ld_weight x2 6 (by decide), ld_weight x2 7 (by decide), ld_weight x2 8 (by decide), ld_weight x2 9 (by decide)]

end Cert.Proof.KernelIdeal

end
-- ==== Proof.KernelIdeal.Region.lean ====
/-
  The TensorCore kernel's pipeline within @main: its proof data from any contents of the arrays, its body at every grid
  point, the accumulator it ends with, and the call itself as @main makes it.
-/
module

public import proofs.«01_k».proof.Proof.KernelIdeal.TckBody
public import Idealize.ShloMosaic.Lib.Pipeline.Frame
public import Idealize.ShloMosaic.Lib.Pipeline.ValueKit

@[expose] public section

noncomputable section

namespace Cert.Proof.KernelIdeal

open Cert.KernelIdeal Cert.KernelIdeal.Gen

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation ucRefs)
open Idealize.ShloMosaic.StableHlo (held)

variable {F : FTy → Type} [FloatOps F]

local notation "𝕄" => MT nD τ sig (HIx 1) (Elt F) ℕ UU ℕ

/-- The pipeline has no prefetched table. -/
abbrev noTables : (p : Fin 1) → (pcfgs (F := F) p).Adm := fun p => (cfgs p).toPCfg_adm

/-- A whole buffer owned at contents read through its memref is its points-to. -/
theorem owns_bufPts (c : Dev nD) {sp : Space} {S : Shape} {e : EltTy} {M : Memref sig .tc sp S e} (h : M.IsWhole) (X : S.Idx → Elt F e) :
    (owns (c : Thread nD τ) M fullShare X : sProp 𝕄) = bufPts c M (h.unread X) := by
  unfold owns
  rw [h.set_eq_univ]
  have h₁ : iprop(∃ f, ⌜M.view.read (Elt F) f = X⌝ ∗ (M.view.loc (c : Thread nD τ) ↦[Finset.univ]{fullShare} f)) ⊢ (bufPts c M (h.unread X) : sProp 𝕄) := by
    iintro ⟨%f, %hf, H⟩
    obtain rfl := h.eq_unread hf
    iexact H
  have h₂ : (bufPts c M (h.unread X) : sProp 𝕄) ⊢ iprop(∃ f, ⌜M.view.read (Elt F) f = X⌝ ∗ (M.view.loc (c : Thread nD τ) ↦[Finset.univ]{fullShare} f)) := by
    iintro H
    iexists _
    isplitr
    · ipureintro; exact h.read_unread X
    iexact H
  exact BI.equiv_iff.mp ⟨h₁, h₂⟩

/-! ## The body over owned buffers -/

section Points

variable (c : Dev nD) (i : grid1.Coords) (M1 : Memref sig .tc .smem S11 .f32) (h1 : M1.IsWhole) (M2 : Memref sig .tc .smem S10 .f32) (h2 : M2.IsWhole)
  (M3 : Memref sig .tc .vmem S4096x128 .f32) (h3 : M3.IsWhole) (M4 : Memref sig .tc .vmem S4096x128 .f32) (h4 : M4.IsWhole)
  (M5 : Memref sig .tc .vmem S8x128 .f32) (h5 : M5.IsWhole)
  (x1 : S11.Idx → Elt F .f32) (x2 : S10.Idx → Elt F .f32) (x3 x4 : FVec F S4096x128 .f32) (x5 : FVec F S8x128 .f32)

/-- The five staging buffers owned. -/
def five (x5 : FVec F S8x128 .f32) : sProp 𝕄 :=
  iprop(owns (c : Thread nD τ) M1 fullShare x1 ∗ owns (c : Thread nD τ) M2 fullShare x2 ∗ owns (c : Thread nD τ) M3 fullShare x3
    ∗ owns (c : Thread nD τ) M4 fullShare x4 ∗ owns (c : Thread nD τ) M5 fullShare x5)

theorem five_eq (x5 : FVec F S8x128 .f32) : (five c M1 M2 M3 M4 M5 x1 x2 x3 x4 x5 : sProp 𝕄)
    = iprop(bufPts c M1 (h1.unread x1) ∗ bufPts c M2 (h2.unread x2) ∗ bufPts c M3 (h3.unread x3) ∗ bufPts c M4 (h4.unread x4) ∗ bufPts c M5 (h5.unread x5)) := by
  unfold five
  rw [owns_bufPts c h1, owns_bufPts c h2, owns_bufPts c h3, owns_bufPts c h4, owns_bufPts c h5]

theorem wp_later (hi : ¬ First i) (E : Set ℕ) (Q : PUnit → sProp 𝕄) :
    iprop(five c M1 M2 M3 M4 M5 x1 x2 x3 x4 x5 ∗ (five c M1 M2 M3 M4 M5 x1 x2 x3 x4 (tckStep x1 x2 x3 x4 x5) -∗ Q ⟨⟩))
      ⊢ wp frame (wpE (defs₀ (F := F)) 𝒱₀ c none) E (cc1_tck i M1 h1 M2 h2 M3 h3 M4 h4 M5 h5) Q := by
  have hW := h5.eq_unread (laterRun_read c i M1 h1 M2 h2 M3 h3 M4 h4 M5 h5 x1 x2 x3 x4 x5 hi)
  have hrun := (laterRun c i M1 h1 M2 h2 M3 h3 M4 h4 M5 h5 x1 x2 x3 x4 x5 hi).2 E Q
  rw [hW] at hrun
  rw [five_eq c M1 h1 M2 h2 M3 h3 M4 h4 M5 h5, five_eq c M1 h1 M2 h2 M3 h3 M4 h4 M5 h5]
  iintro ⟨⟨H1, H2, H3, H4, H5⟩, Hk⟩
  iapply hrun
  isplitl [H1]; · iexact H1
  isplitl [H2]; · iexact H2
  isplitl [H3]; · iexact H3
  isplitl [H4]; · iexact H4
  isplitl [H5]; · iexact H5
  iexact Hk

theorem wp_first (hi : First i) (E : Set ℕ) (Q : PUnit → sProp 𝕄) :
    iprop(five c M1 M2 M3 M4 M5 x1 x2 x3 x4 x5 ∗ (five c M1 M2 M3 M4 M5 x1 x2 x3 x4 (tckStep x1 x2 x3 x4 k1_pay2) -∗ Q ⟨⟩))
      ⊢ wp frame (wpE (defs₀ (F := F)) 𝒱₀ c none) E (cc1_tck i M1 h1 M2 h2 M3 h3 M4 h4 M5 h5) Q := by
  have hW := h5.eq_unread (firstRun_read c i M1 h1 M2 h2 M3 h3 M4 h4 M5 h5 x1 x2 x3 x4 x5 hi)
  have hrun := (firstRun c i M1 h1 M2 h2 M3 h3 M4 h4 M5 h5 x1 x2 x3 x4 x5 hi).2 E Q
  rw [hW] at hrun
  rw [five_eq c M1 h1 M2 h2 M3 h3 M4 h4 M5 h5, five_eq c M1 h1 M2 h2 M3 h3 M4 h4 M5 h5]
  iintro ⟨⟨H1, H2, H3, H4, H5⟩, Hk⟩
  iapply hrun
  isplitl [H1]; · iexact H1
  isplitl [H2]; · iexact H2
  isplitl [H3]; · iexact H3
  isplitl [H4]; · iexact H4
  isplitl [H5]; · iexact H5
  iexact Hk

end Points

/-! ## The proof data -/

variable (V : Dev nD → Valuation τ sig (Elt F))

/-- The arrays the pipeline is entered with: the bin edges, the bin weights, and the rows of predictions and targets. -/
abbrev edgesOf (c : Dev nD) : S11.Idx → Elt F .f32 := V c main_arg2
abbrev weightsOf (c : Dev nD) : S10.Idx → Elt F .f32 := V c main_arg3
abbrev predsOf (c : Dev nD) : S65536x128.Idx → Elt F .f32 := V c main_v9
abbrev targsOf (c : Dev nD) : S65536x128.Idx → Elt F .f32 := V c main_v10

/-- The blocks fetched at a point. -/
abbrev edgeBlk (c : Dev nD) (t : Fin cfg1.N) : S11.Idx → Elt F .f32 := ((cfg1.win 0).blk t).view.read (Elt F) (V c main_arg2)
abbrev weightBlk (c : Dev nD) (t : Fin cfg1.N) : S10.Idx → Elt F .f32 := ((cfg1.win 1).blk t).view.read (Elt F) (V c main_arg3)
abbrev predBlk (c : Dev nD) (t : Fin cfg1.N) : FVec F S4096x128 .f32 := ((cfg1.win 2).blk t).view.read (Elt F) (V c main_v9)
abbrev targBlk (c : Dev nD) (t : Fin cfg1.N) : FVec F S4096x128 .f32 := ((cfg1.win 3).blk t).view.read (Elt F) (V c main_v10)

/-- The accumulator after point `n`. -/
def accAt (c : Dev nD) : (n : ℕ) → n < cfg1.N → FVec F S8x128 .f32
  | 0, h => tckStep (edgeBlk V c ⟨0, h⟩) (weightBlk V c ⟨0, h⟩) (predBlk V c ⟨0, h⟩) (targBlk V c ⟨0, h⟩) k1_pay2
  | n + 1, h => tckStep (edgeBlk V c ⟨n + 1, h⟩) (weightBlk V c ⟨n + 1, h⟩) (predBlk V c ⟨n + 1, h⟩) (targBlk V c ⟨n + 1, h⟩) (accAt c n (Nat.lt_of_succ_lt h))

/-- What every wait of the TensorCore recorded before the pipeline stays below. -/
abbrev waitsBelow (c : Dev nD) : Set (SemLoc sig × HIx 1) := {p | (K (F := F)).lev (SparseCore.T c, p.1) p.2 ≤ 8}

/-- The pipeline's proof data from arrays at `V`. -/
def dat (c : Dev nD) : Dat τ (Elt F) (HIx 1) ℕ UU ℕ cfg1 c where
  A w := V c (Proc.devRef .tc (Pipeline.arrRef spec1 w))
  after w t := match w with
    | ⟨0, _⟩ => edgeBlk V c t
    | ⟨1, _⟩ => weightBlk V c t
    | ⟨2, _⟩ => predBlk V c t
    | ⟨3, _⟩ => targBlk V c t
    | ⟨4, _⟩ => accAt V c t.val t.isLt
  Φ _ := BI.emp
  q _ := fullShare
  owed _ := 0
  recorded _ := waitsBelow (F := F) c

theorem before_0 (c : Dev nD) (t : Fin cfg1.N) (d) : (dat V c).before 0 t d = edgeBlk V c t :=
  (dat V c).before_in_eq_fetched 0 rfl (fun _ => rfl) (fun _ _ _ => rfl) (fun _ => rfl) t d
theorem before_1 (c : Dev nD) (t : Fin cfg1.N) (d) : (dat V c).before 1 t d = weightBlk V c t :=
  (dat V c).before_in_eq_fetched 1 rfl (fun _ => rfl) (fun _ _ _ => rfl) (fun _ => rfl) t d
theorem before_2 (c : Dev nD) (t : Fin cfg1.N) (d) : (dat V c).before 2 t d = predBlk V c t :=
  (dat V c).before_in_eq_fetched 2 rfl (fun _ => rfl) (fun _ _ _ => rfl) (fun _ => rfl) t d
theorem before_3 (c : Dev nD) (t : Fin cfg1.N) (d) : (dat V c).before 3 t d = targBlk V c t :=
  (dat V c).before_in_eq_fetched 3 rfl (fun _ => rfl) (fun _ _ _ => rfl) (fun _ => rfl) t d

theorem before_4 (c : Dev nD) (n : ℕ) (h : n + 1 < cfg1.N) (d) : (dat V c).before 4 ⟨n + 1, h⟩ d = accAt V c n (Nat.lt_of_succ_lt h) := by
  refine ((dat V c).before_out_kept 4 rfl ⟨n + 1, h⟩ (Nat.succ_ne_zero n) ?_ (fun _ => rfl) (fun _ _ => rfl) d).trans rfl
  rw [← Bool.not_eq_true, flush1_4]
  have hN : cfg1.N = 9 := N_1
  simp only [Nat.add_sub_cancel]
  omega

/-- The body clears the accumulator at the first point only. -/
theorem first_iff (t : Fin cfg1.N) : First (grid1.coords t) ↔ t.val = 0 := by
  rcases fin_N1 t with rfl | rfl | rfl | rfl | rfl | rfl | rfl | rfl | rfl <;> decide

/-- The body at every point. -/
theorem body_obligation (c : Dev nD) : BodyObligation (dat V c) (defs₀ (F := F)) 𝒱₀ none Set.univ := fun t => by
  rw [bigSep_W1, bigSep_W1]
  dsimp only
  rw [show (dat V c).Φ t.castSucc = BI.emp from rfl, show (dat V c).Φ t.succ = BI.emp from rfl,
    show (dat V c).owesAt none t.succ = (dat V c).owesAt none t.castSucc from rfl]
  show _ ⊢ wp frame (wpE defs₀ 𝒱₀ (c : Thread nD τ) none) Set.univ (bodyAt1 t) _
  simp only [before_0, before_1, before_2, before_3]
  obtain ⟨n, h⟩ := t
  cases n with
  | zero =>
    iintro ⟨-, Howes, ⟨%_, H0⟩, ⟨%_, H1⟩, ⟨%_, H2⟩, ⟨%_, H3⟩, ⟨%d4, H4⟩⟩
    iapply (wp_first c _ _ (hstage1_0 _) _ (hstage1_1 _) _ (hstage1_2 _) _ (hstage1_3 _) _ (hstage1_4 _) _ _ _ _ _ ((first_iff ⟨0, h⟩).mpr rfl) Set.univ _)
    unfold five
    isplitl [H0 H1 H2 H3 H4]
    · isplitl [H0]; · iexact H0
      isplitl [H1]; · iexact H1
      isplitl [H2]; · iexact H2
      isplitl [H3]; · iexact H3
      iexact H4
    iintro ⟨H0, H1, H2, H3, H4⟩
    isplitr; · iempintro
    isplitl [Howes]; · iexact Howes
    isplitl [H0]; · iexact H0
    isplitl [H1]; · iexact H1
    isplitl [H2]; · iexact H2
    isplitl [H3]; · iexact H3
    iexact H4
  | succ n =>
    simp only [before_4]
    iintro ⟨-, Howes, ⟨%_, H0⟩, ⟨%_, H1⟩, ⟨%_, H2⟩, ⟨%_, H3⟩, ⟨%d4, H4⟩⟩
    iapply (wp_later c _ _ (hstage1_0 _) _ (hstage1_1 _) _ (hstage1_2 _) _ (hstage1_3 _) _ (hstage1_4 _) _ _ _ _ _ (fun hf => Nat.succ_ne_zero n ((first_iff ⟨n + 1, h⟩).mp hf)) Set.univ _)
    unfold five
    isplitl [H0 H1 H2 H3 H4]
    · isplitl [H0]; · iexact H0
      isplitl [H1]; · iexact H1
      isplitl [H2]; · iexact H2
      isplitl [H3]; · iexact H3
      iexact H4
    iintro ⟨H0, H1, H2, H3, H4⟩
    isplitr; · iempintro
    isplitl [Howes]; · iexact Howes
    isplitl [H0]; · iexact H0
    isplitl [H1]; · iexact H1
    isplitl [H2]; · iexact H2
    isplitl [H3]; · iexact H3
    iexact H4

/-! ## The accumulator written back -/

/-- The accumulator after the last point. -/
abbrev accOut (c : Dev nD) : FVec F S8x128 .f32 := accAt V c 8 (by rw [show cfg1.N = 9 from N_1]; decide)

theorem final_acc (c : Dev nD) : (dat V c).arrAt 4 cfg1.N = accOut V c := by
  refine (dat V c).arrAt_eq_of_covers 4 _ (by decide +kernel) fun t hf y => ?_
  have h8 : t = t1_8 := Fin.ext (by
    have hN : cfg1.N = 9 := N_1
    have h := (flush1_4 t).mp hf
    have ht := t.isLt
    show t.val = 8
    omega)
  subst h8
  blk_simp
  have hy : (win1_4.blk t1_8).view.emb y = y := funext fun a => Fin.ext (by
    have hi : win1_4.index t1_8 0 = 0 ∧ win1_4.index t1_8 1 = 0 := by decide
    match a with
    | ⟨0, _⟩ => show win1_4.index t1_8 0 * 8 + 1 * (y 0).val = (y 0).val; rw [hi.1]; omega
    | ⟨1, _⟩ => show win1_4.index t1_8 1 * 128 + 1 * (y 1).val = (y 1).val; rw [hi.2]; omega)
  rw [hy]
  exact congrFun (show (dat V c).after 4 t1_8 = accAt V c t1_8.val t1_8.isLt from rfl) y

/-! ## The call in @main -/

/-- The arrays after the call: the accumulator's at what the last point left. -/
def afterTck (c : Dev nD) : Valuation τ sig (Elt F) := Function.update (V c) (Proc.devRef .tc main_v11) (accOut V c)

theorem afterTck_out (c : Dev nD) : afterTck V c (Proc.devRef .tc main_v11) = accOut V c := by
  unfold afterTck; rw [Function.update_self]

theorem afterTck_ne (c : Dev nD) (b : DevRef τ sig) (hb : b ≠ Proc.devRef .tc main_v11) : afterTck V c b = V c b := by
  unfold afterTck; rw [Function.update_of_ne hb]

/-- What the TensorCore owes after the SparseCore call: nothing, with its waits recorded below the bound. -/
abbrev owesNone (c : Dev nD) : sProp 𝕄 :=
  iprop(∃ W, ⌜(K (F := F)).WBelow (SparseCore.T c) W 8⌝ ∗ owes (c : Thread nD τ) (0 : CellTallies nD τ sig (HIx 1)) W)

abbrev dats : (p : Fin 1) → (c : Dev nD) → Dat τ (Elt F) (HIx 1) ℕ UU ℕ (Pipeline.pin (pcfgs (F := F)) noTables p) c
  | ⟨0, _⟩ => fun c => dat V c

set_option backward.isDefEq.respectTransparency.types false in
/-- The call as the pipeline's rule takes it: from every unscoped array at `V` to every one at `afterTck V`. -/
def reg : Pipeline.RegionSeg (pcfgs (F := F)) noTables (dats V) none defs₀ 𝒱₀ (K (F := F)).L (K (F := F)).lev 0 where
  win := (launch1).win.to₀
  block_pos := (launch1).block_pos
  stage_whole := (launch1).stage_whole
  K := PEmpty
  osem k := k.elim
  ho := Pipeline.OwnSemFacts.none _
  hbody c := (body_obligation V c).loose
  hwaits := Pipeline.hwaits_of_owed_zero _ _ _ _ _ _ 0 fun _ _ => rfl
  pre c := iprop(held (c : Thread nD τ) (ucRefs τ sig) (V c) ∗ owesNone c)
  post c := iprop(held (c : Thread nD τ) (ucRefs τ sig) (afterTck V c) ∗ owesNone c)
  X _ := BI.emp
  Y _ := BI.emp
  Z c := Pipeline.unscopedRest (Ix := HIx 1) (Name := ℕ) (U := UU) (Lvl := ℕ) spec1 c (fun b => V c b)
  hentry c := by
    rw [Pipeline.ownSems0_none]
    have hsplit := Pipeline.arrays_of_unscopedBufs (p := 0) (pcfgs (F := F)) noTables (dats V) (launch1).win (launch1).arr_whole c
      ((dats V 0 c).share_full fun _ => rfl) (fun b => V c b) fun _ => rfl
    have hheld := Pipeline.unscopedBufs_held (Ix := HIx 1) (Name := ℕ) (U := UU) (Lvl := ℕ) c (V c)
    iintro ⟨⟨Hub, HO⟩, -, -⟩
    ihave Hub := (Entails.of_eq hheld.symm) $$ Hub
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩
      iexists W
      isplitr
      · ipureintro; exact fun p hp => Or.inl (hW p hp)
      iexact HO
    isplitr; · iempintro
    iexact Hrest
  hin c := by
    rw [show (dats V 0 c).Φ 0 = BI.emp from rfl]
    iintro -; iempintro
  hout c := by
    rw [Pipeline.ownSems0_none, show (dats V 0 c).Φ (Fin.last _) = BI.emp from rfl]
    have hrest := scopedRest1_eq (Ix := HIx 1) (Name := ℕ) (U := UU) (Lvl := ℕ) (Val := Elt F) c
    iintro -
    isplitr; · iempintro
    isplitr; · iempintro
    iapply (Entails.of_eq hrest.symm)
    iempintro
  hexit c := by
    have hjoin := Pipeline.unscopedBufs_of_arrays (p := 0) (pcfgs (F := F)) noTables (Ix := HIx 1) (Name := ℕ) (U := UU) (Lvl := ℕ) (launch1).win (launch1).arr_whole c
      (dats V) ((dats V 0 c).share_full fun _ => rfl) (fun b => V c b) (fun b => afterTck V c b) ((dats V 0 c).arrAt · cfg1.N)
      (fun w => by
        fin_cases w
        · exact ((dats V 0 c).arrAt_in 0 rfl _).trans (afterTck_ne V c (Proc.devRef .tc main_arg2) (by decide)).symm
        · exact ((dats V 0 c).arrAt_in 1 rfl _).trans (afterTck_ne V c (Proc.devRef .tc main_arg3) (by decide)).symm
        · exact ((dats V 0 c).arrAt_in 2 rfl _).trans (afterTck_ne V c (Proc.devRef .tc main_v9) (by decide)).symm
        · exact ((dats V 0 c).arrAt_in 3 rfl _).trans (afterTck_ne V c (Proc.devRef .tc main_v10) (by decide)).symm
        · exact (final_acc V c).trans (afterTck_out V c).symm)
      (fun b hb => afterTck_ne V c _ fun h => hb (by
        have hb' : b = main_v11 := Proc.devRef_injective _ h
        exact hb' ▸ Finset.mem_image.mpr ⟨4, Finset.mem_univ _, rfl⟩))
    have hheld := Pipeline.unscopedBufs_held (Ix := HIx 1) (Name := ℕ) (U := UU) (Lvl := ℕ) c (afterTck V c)
    iintro ⟨Ha, HO, -, Hrest⟩
    imodintro
    isplitl [Ha Hrest]
    · iapply (Entails.of_eq hheld)
      iapply hjoin
      isplitl [Ha] <;> iassumption
    unfold Pipeline.Dat.owesAt Pipeline.owesWithin
    icases HO with ⟨%W, %hW, HO⟩
    iexists W
    isplitr
    · ipureintro
      intro p hp
      rcases hW hp with h | ⟨w, s, rfl⟩
      · exact h
      · exact Nat.zero_le _
    iexact HO

/-- The ghost state the pipeline's call consumes. -/
abbrev pipeGhost (c : Dev nD) : sProp 𝕄 :=
  iprop(Pipeline.cellsGhost (Pipeline.pin (pcfgs (F := F)) noTables) EP 0 c ∗ Pipeline.toksInit (Pipeline.pin (pcfgs (F := F)) noTables) EP 0 c)

/-- The call as @main makes it. -/
theorem wp_tck (c : Dev nD) [∀ e, Nonempty (Elt F e)] (Q : PUnit → sProp 𝕄) :
    iprop((iprop(boundary (SparseCore.T c : Thread nD τ) ∗ held (SparseCore.T c : Thread nD τ) (ucRefs τ sig) (afterTck V c) ∗ owesNone c) -∗ Q ⟨⟩)
        ∗ boundary (SparseCore.T c : Thread nD τ) ∗ held (SparseCore.T c : Thread nD τ) (ucRefs τ sig) (V c) ∗ owesNone c
        ∗ levAts (K (F := F)).L (K (F := F)).lev ∗ pipeGhost c)
      ⊢ wp frame (wpE ((K (F := F)).defs D) 𝒱 (SparseCore.T c) none) Set.univ
          (Prog.lift (.customCall (SparseCore.inner (Pipeline.entry (0 : Fin 1))) ())) Q := by
  have hrun := Pipeline.RegionSeg.wp (pcfgs (F := F)) noTables (dats V) none cellOf_inj EP defs₀ 𝒱₀ (K (F := F)).L (K (F := F)).lev (reg V) c none
    (fun _ h => nomatch h) (fun _ => .ret ⟨⟩) Q
  have hlift := (K (F := F)).wp_liftProg (D (F := F)) 𝒱 (SparseCore.T c) Set.univ none
    (.op (.customCall (Pipeline.entry (0 : Fin 1)) ()) fun _ => .ret ⟨⟩) Q
  refine BIBase.Entails.trans ?_ hlift
  refine BIBase.Entails.trans ?_ hrun
  have hpre : (reg V).pre c = iprop(held (c : Thread nD τ) (ucRefs τ sig) (V c) ∗ owesNone c) := rfl
  have hpost : (reg V).post c = iprop(held (c : Thread nD τ) (ucRefs τ sig) (afterTck V c) ∗ owesNone c) := rfl
  rw [hpre, hpost]
  iintro ⟨Hk, Hb, Hh, HO, Hl, Hg, Ht⟩
  isplitl [Hk]
  · iintro ⟨Hb, Hh, HO⟩
    rw [wp_ret]
    imodintro
    iapply Hk
    isplitl [Hb]; · iexact Hb
    isplitl [Hh]; · iexact Hh
    iexact HO
  isplitl [Hb]; · iexact Hb
  isplitl [Hh HO]
  · isplitl [Hh]; · iexact Hh
    iexact HO
  isplitl [Hl]; · iexact Hl
  isplitl [Hg]; · iexact Hg
  iexact Ht

end Cert.Proof.KernelIdeal

end
-- ==== Proof.KernelIdeal.Main.lean ====
/-
  @main on the TensorCore and the run of the whole program: the host's operations, the SparseCore call between them and the
  pipeline's call after it, what each buffer holds along the way, and what the program leaves.
-/
module

public import proofs.«01_k».proof.Proof.KernelIdeal.Task
public import proofs.«01_k».proof.Proof.KernelIdeal.Region

@[expose] public section

noncomputable section

namespace Cert.Proof.KernelIdeal

open Cert.KernelIdeal Cert.KernelIdeal.Gen

open Idealize.ShloMosaic
open Idealize.ShloMosaic.SparseCore.Cfg (HIx)
open Idealize.ShloMosaic.ShareLeaves (leaf pointsTo_leaves)
open Idealize.ShloMosaic.StableHlo (nullary unary binary ternary seq seqK after held nullary_bufs_sub unary_bufs_sub binary_bufs_sub ternary_bufs_sub reshape_bufs_sub)
open Idealize.ShloMosaic.Pipeline (ucRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-! ## The SparseCore call's operands, whole and by SparseCore -/

/-- Every element of the partial sums lies in some tile's window. -/
theorem out_cover : (Finset.univ : Finset (Fin 2 × Fin 16)).biUnion (fun cs => oSet (coordsV cs.1 cs.2)) = Finset.univ := by
  refine Finset.eq_univ_iff_forall.mpr fun x => Finset.mem_biUnion.mpr ?_
  have hx : (x 0).val < 512 := (x 0).isLt
  refine ⟨(⟨(x 0).val / 16 % 2, by omega⟩, ⟨(x 0).val / 32, by omega⟩), Finset.mem_univ _, ?_⟩
  show x ∈ (outRect (tileOf x)).set
  rw [Rect.mem_set_unit]
  intro a
  match a with
  | 0 =>
    rw [out_off]
    show ((x 0).val / 32 * 2 + (x 0).val / 16 % 2) * 16 ≤ (x 0).val ∧ (x 0).val < ((x 0).val / 32 * 2 + (x 0).val / 16 % 2) * 16 + 16
    omega

theorem oPts_cores (d : Dev nD) (f : Buf (Elt F) (oLoc d)) :
    (oLoc d ↦{fullShare} f : sProp 𝕄)
      = bigSep Finset.univ fun c : Fin 2 => bigSep Finset.univ fun s : Fin 16 => (oLoc d ↦[oSet (coordsV c s)]{fullShare} f) := by
  have h := pointsTo_biUnion (Finset.univ : Finset (Fin 2 × Fin 16)) (ℓ := oLoc d) (q := fullShare) (f := f) (Ix := HIx 1) (Name := ℕ) (U := UU) (Lvl := ℕ)
    (fun cs => oSet (coordsV cs.1 cs.2)) fun a _ b _ hab => out_disjoint fun e => hab (Prod.ext (congrFun e 0) (congrFun e 1))
  rw [out_cover, bigSep_univ_prod] at h
  exact h

theorem reads_cores (d : Dev nD) (cp : Buf (Elt F) (pLoc d)) (ct : Buf (Elt F) (tLoc d)) (cw : Buf (Elt F) (wLoc d)) (cb : Buf (Elt F) (bLoc d)) :
    (readPts d fullShare cp ct cw cb : sProp 𝕄) = bigSep Finset.univ fun c : Fin 2 => readPts d (coreShare c) cp ct cw cb := by
  unfold readPts
  rw [bigSep_sep', bigSep_sep', bigSep_sep', pointsTo_leaves Finset.univ cp 1 fullShare, pointsTo_leaves Finset.univ ct 1 fullShare,
    pointsTo_leaves Finset.univ cw 1 fullShare, pointsTo_leaves Finset.univ cb 1 fullShare]
  rfl

/-- What the call takes and what it brings back, whole, is what its two SparseCores take and bring back. -/
theorem cores_eq (cp : (d : Dev nD) → Buf (Elt F) (pLoc d)) (ct : (d : Dev nD) → Buf (Elt F) (tLoc d)) (cw : (d : Dev nD) → Buf (Elt F) (wLoc d))
    (cb : (d : Dev nD) → Buf (Elt F) (bLoc d)) (f : (d : Dev nD) → Buf (Elt F) (oLoc d)) (d : Dev nD) :
    (iprop(readPts d fullShare (cp d) (ct d) (cw d) (cb d) ∗ (oLoc d ↦{fullShare} f d)) : sProp 𝕄)
      = bigSep Finset.univ fun c : Fin 2 => corePts cp ct cw cb f d c := by
  unfold corePts
  rw [bigSep_sep', oPts_cores, reads_cores]

/-! ## The call's operands among the buffers @main holds -/

/-- A buffer of the TensorCore as the device names it. -/
abbrev dr : Ref sig .tc → DevRef τ sig := Proc.devRef (Proc.tc : Proc τ)

/-- The rest of what @main holds at the call. -/
abbrev restRefs : Finset (DevRef τ sig) := ucRefs τ sig \ [dr main_v0, dr main_v1, dr main_v4, dr main_v7, dr main_v8].toFinset

theorem held_operands (d : Dev nD) (W : Valuation τ sig (Elt F)) :
    (held (SparseCore.T d : Thread nD τ) (ucRefs τ sig) W : sProp 𝕄)
      = iprop((pLoc d ↦{fullShare} W (dr main_v0)) ∗ (tLoc d ↦{fullShare} W (dr main_v1)) ∗ (wLoc d ↦{fullShare} W (dr main_v4))
          ∗ (bLoc d ↦{fullShare} W (dr main_v7)) ∗ (oLoc d ↦{fullShare} W (dr main_v8)) ∗ held (SparseCore.T d : Thread nD τ) restRefs W) := by
  unfold held
  exact bigSep_take (fun b : DevRef τ sig => ((d, b) : Loc nD τ sig) ↦{fullShare} W b) [dr main_v0, dr main_v1, dr main_v4, dr main_v7, dr main_v8]
    (List.Nodup.map (l := [main_v0, main_v1, main_v4, main_v7, main_v8]) (Proc.devRef_injective (sig := sig) (Proc.tc : Proc τ)) (by decide)) (ucRefs τ sig) (by
      have h : ∀ b : Ref sig .tc, b ∈ ([main_v0, main_v1, main_v4, main_v7, main_v8] : List (Ref sig .tc)) → dr b ∈ ucRefs τ sig := by decide
      intro i hi
      obtain ⟨b, hb, rfl⟩ := List.mem_map.mp (show i ∈ ([main_v0, main_v1, main_v4, main_v7, main_v8] : List (Ref sig .tc)).map dr from hi)
      exact h b hb)

variable [FloatOps F]

/-! ## The host's operations, and what the buffers hold along the way -/

/-- The operations before the SparseCore call. -/
abbrev preOps : List (HloOp τ sig (Elt F)) :=
  [ StableHlo.reshape main_arg0 main_v0 rfl shapeCasts_S8388608x1_S8388608,
    StableHlo.reshape main_arg1 main_v1 rfl shapeCasts_S8388608x1_S8388608,
    nullary main_cst (constant S_ .f32 0x00000000#32),
    unary main_cst main_v2 (broadcastInDim S16 ![] bcast_S_S16),
    nullary main_c (constantI S_ 32 0#32),
    unary main_c main_v3 (broadcastInDim S1 ![] bcast_S_S1),
    ternary main_v2 main_v3 main_arg3 main_v4 (fun x i u => Host.scatter scatter_S16_S1_S10_0_n_0_0 (fun _ b => b) x i u),
    nullary main_cst_0 (constant S_ .f32 0x00000000#32),
    unary main_cst_0 main_v5 (broadcastInDim S16 ![] bcast_S_S16),
    nullary main_c_1 (constantI S_ 32 0#32),
    unary main_c_1 main_v6 (broadcastInDim S1 ![] bcast_S_S1),
    ternary main_v5 main_v6 main_arg2 main_v7 (fun x i u => Host.scatter scatter_S16_S1_S11_0_n_0_0 (fun _ b => b) x i u) ]
/-- Those between the two calls. -/
abbrev midOps : List (HloOp τ sig (Elt F)) :=
  [ StableHlo.reshape main_v0 main_v9 rfl shapeCasts_S8388608_S65536x128,
    StableHlo.reshape main_v1 main_v10 rfl shapeCasts_S8388608_S65536x128 ]
/-- Those after the pipeline's call. -/
abbrev postOps : List (HloOp τ sig (Elt F)) :=
  [ nullary main_cst_2 (constant S_ .f32 0x00000000#32),
    binary main_v8 main_cst_2 main_v12 (fun x v => Host.reduceAdd x v reducesTo_S512_S_d0 h_S_),
    nullary main_cst_3 (constant S_ .f32 0x00000000#32),
    binary main_v11 main_cst_3 main_v13 (fun x v => Host.reduceAdd x v reducesTo_S8x128_S_d0_1 h_S_),
    binary main_v12 main_v13 main_v14 addf,
    nullary main_cst_4 (constant S_ .f32 0x4B000000#32),
    binary main_v14 main_cst_4 main_v15 Host.divf ]

theorem main_eq (d : Dev nD) : main (F := F) d
    = (seq preOps >>= fun _ => (K (F := F)).run d 0 >>= fun _ => seq midOps >>= fun _ =>
        Prog.lift (.customCall (SparseCore.inner (Pipeline.entry (0 : Fin 1))) ()) >>= fun _ => seq postOps >>= fun _ => pure ⟨⟩) := by
  rw [StableHlo.seq_bind_seqK, StableHlo.seq_bind_seqK midOps, StableHlo.seq_bind_seqK postOps]
  rfl

theorem ucSub {ops : List (HloOp τ sig (Elt F))} (h : ops.Forall fun op => op.bufs ⊆ StableHlo.tcRefs τ sig) : ∀ op ∈ ops, op.bufs ⊆ ucRefs τ sig :=
  fun op ho => Pipeline.sub_ucRefs op (List.forall_iff_forall_mem.mp h op ho)
theorem preOps_sub : ∀ op ∈ (preOps : List (HloOp τ sig (Elt F))), op.bufs ⊆ ucRefs τ sig :=
  ucSub ⟨reshape_bufs_sub .., reshape_bufs_sub .., nullary_bufs_sub .., unary_bufs_sub .., nullary_bufs_sub .., unary_bufs_sub .., ternary_bufs_sub ..,
    nullary_bufs_sub .., unary_bufs_sub .., nullary_bufs_sub .., unary_bufs_sub .., ternary_bufs_sub ..⟩
theorem midOps_sub : ∀ op ∈ (midOps : List (HloOp τ sig (Elt F))), op.bufs ⊆ ucRefs τ sig :=
  ucSub ⟨reshape_bufs_sub .., reshape_bufs_sub ..⟩
theorem postOps_sub : ∀ op ∈ (postOps : List (HloOp τ sig (Elt F))), op.bufs ⊆ ucRefs τ sig :=
  ucSub ⟨nullary_bufs_sub .., binary_bufs_sub .., nullary_bufs_sub .., binary_bufs_sub .., binary_bufs_sub .., nullary_bufs_sub .., binary_bufs_sub ..⟩
theorem noFresh {ops : List (HloOp τ sig (Elt F))} (h : ops.Forall fun op => op.fresh = ∅) : ∀ op ∈ ops, op.fresh = ∅ := List.forall_iff_forall_mem.mp h
theorem preOps_fresh : ∀ op ∈ (preOps : List (HloOp τ sig (Elt F))), op.fresh = ∅ := noFresh ⟨rfl, rfl, rfl, rfl, rfl, rfl, rfl, rfl, rfl, rfl, rfl, rfl⟩
theorem midOps_fresh : ∀ op ∈ (midOps : List (HloOp τ sig (Elt F))), op.fresh = ∅ := noFresh ⟨rfl, rfl⟩
theorem postOps_fresh : ∀ op ∈ (postOps : List (HloOp τ sig (Elt F))), op.fresh = ∅ := noFresh ⟨rfl, rfl, rfl, rfl, rfl, rfl, rfl⟩

variable (m : (ℓ : Loc nD τ sig) → Buf (Elt F) ℓ) (ρ : Dev nD → PrngReg)

/-- At the launch, -/
abbrev V0 (d : Dev nD) : Valuation τ sig (Elt F) := fun b => m (d, b)
/-- at the SparseCore call, -/
def V1 (d : Dev nD) : Valuation τ sig (Elt F) := after preOps (V0 m d)

/-- The call's operands on each device: predictions, targets, padded weights, padded edges, and the partial sums' old contents. -/
abbrev opP (d : Dev nD) : Buf (Elt F) (pLoc d) := V1 m d (dr main_v0)
abbrev opT (d : Dev nD) : Buf (Elt F) (tLoc d) := V1 m d (dr main_v1)
abbrev opW (d : Dev nD) : Buf (Elt F) (wLoc d) := V1 m d (dr main_v4)
abbrev opB (d : Dev nD) : Buf (Elt F) (bLoc d) := V1 m d (dr main_v7)
abbrev opO (d : Dev nD) : Buf (Elt F) (oLoc d) := V1 m d (dr main_v8)

/-- The partial sums on each device. -/
abbrev scSums (d : Dev nD) : Buf (Elt F) (oLoc d) := sums (opP m) (opT m) (opW m) (opB m) d

/-- after it, -/
def V2 (d : Dev nD) : Valuation τ sig (Elt F) := Function.update (V1 m d) (dr main_v8) (scSums m d)
/-- at the pipeline's call, -/
def V3 (d : Dev nD) : Valuation τ sig (Elt F) := after midOps (V2 m d)
/-- after it, -/
def V4 (d : Dev nD) : Valuation τ sig (Elt F) := afterTck (V3 m) d
/-- and at the end. -/
def V5 (d : Dev nD) : Valuation τ sig (Elt F) := after postOps (V4 m d)

/-- The call's payloads at this launch. -/
abbrev PP : (K (F := F)).Pay (nD := nD) (Val := Elt F) (Name := ℕ) (U := UU) := P (opP m) (opT m) (opW m) (opB m) (opO m)

/-- A family of operands and what is left of the buffers, put together or taken apart. -/
theorem operands_assoc (A B C D' E R : sProp 𝕄) : iprop(A ∗ B ∗ C ∗ D' ∗ E ∗ R) = iprop(((A ∗ B ∗ C ∗ D') ∗ E) ∗ R) := by
  have h1 : iprop(A ∗ B ∗ C ∗ D' ∗ E ∗ R) ⊢ (iprop(((A ∗ B ∗ C ∗ D') ∗ E) ∗ R) : sProp 𝕄) := by
    iintro ⟨H0, H1, H2, H3, H4, H5⟩
    isplitr [H5]
    · isplitr [H4]
      · isplitl [H0]; · iexact H0
        isplitl [H1]; · iexact H1
        isplitl [H2]; · iexact H2
        iexact H3
      · iexact H4
    · iexact H5
  have h2 : iprop(((A ∗ B ∗ C ∗ D') ∗ E) ∗ R) ⊢ (iprop(A ∗ B ∗ C ∗ D' ∗ E ∗ R) : sProp 𝕄) := by
    iintro ⟨⟨⟨H0, H1, H2, H3⟩, H4⟩, H5⟩
    isplitl [H0]; · iexact H0
    isplitl [H1]; · iexact H1
    isplitl [H2]; · iexact H2
    isplitl [H3]; · iexact H3
    isplitl [H4]; · iexact H4
    iexact H5
  exact BI.equiv_iff.mp ⟨h1, h2⟩

theorem held_before (d : Dev nD) :
    (held (SparseCore.T d : Thread nD τ) (ucRefs τ sig) (V1 m d) : sProp 𝕄)
      = iprop((bigSep Finset.univ fun c : Fin ((K (F := F)).nCore 0) => (PP m).st 0 d c) ∗ held (SparseCore.T d : Thread nD τ) restRefs (V1 m d)) := by
  have h' : (bigSep Finset.univ fun c : Fin ((K (F := F)).nCore 0) => (PP m).st 0 d c)
      = (bigSep Finset.univ fun c : Fin 2 => corePts (opP m) (opT m) (opW m) (opB m) (opO m) d c : sProp 𝕄) := rfl
  rw [held_operands, h', ← cores_eq (opP m) (opT m) (opW m) (opB m) (opO m) d]
  exact operands_assoc ..

theorem V2_sums (d : Dev nD) : V2 m d (dr main_v8) = scSums m d := Function.update_self ..
theorem V2_ne (d : Dev nD) {b : DevRef τ sig} (h : b ≠ dr main_v8) : V2 m d b = V1 m d b := Function.update_of_ne h ..

theorem held_after (d : Dev nD) :
    (held (SparseCore.T d : Thread nD τ) (ucRefs τ sig) (V2 m d) : sProp 𝕄)
      = iprop((bigSep Finset.univ fun c : Fin ((K (F := F)).nCore 0) => (PP m).dn 0 d c) ∗ held (SparseCore.T d : Thread nD τ) restRefs (V1 m d)) := by
  have h' : (bigSep Finset.univ fun c : Fin ((K (F := F)).nCore 0) => (PP m).dn 0 d c)
      = (bigSep Finset.univ fun c : Fin 2 => corePts (opP m) (opT m) (opW m) (opB m) (sums (opP m) (opT m) (opW m) (opB m)) d c : sProp 𝕄) := rfl
  have hrest : (held (SparseCore.T d : Thread nD τ) restRefs (V2 m d) : sProp 𝕄) = held (SparseCore.T d : Thread nD τ) restRefs (V1 m d) := by
    unfold held
    refine bigSep_congr fun b hb => ?_
    rw [V2_ne m d fun e => (Finset.mem_sdiff.mp hb).2 (by rw [e]; decide)]
  rw [held_operands, h', ← cores_eq (opP m) (opT m) (opW m) (opB m) (sums (opP m) (opT m) (opW m) (opB m)) d, hrest, V2_sums,
    V2_ne m d (show dr main_v0 ≠ dr main_v8 by decide), V2_ne m d (show dr main_v1 ≠ dr main_v8 by decide),
    V2_ne m d (show dr main_v4 ≠ dr main_v8 by decide), V2_ne m d (show dr main_v7 ≠ dr main_v8 by decide)]
  exact operands_assoc ..

/-! ## @main -/

/-- After the one SparseCore call the TensorCore owes nothing; the rest of its handshake state stays as it is. -/
theorem tcSt_one (d : Dev nD) : ∃ R : sProp 𝕄, (K (F := F)).tcSt EH d 1 = iprop(owesNone (F := F) d ∗ R) := by
  unfold SparseCore.Cfg.tcSt owesNone
  rw [(K (F := F)).Otc_end d le_rfl]
  exact ⟨_, rfl⟩

/-- What the program leaves on a device: every unscoped buffer, at its last contents. -/
abbrev FIN (d : Dev nD) : sProp 𝕄 := held (SparseCore.T d : Thread nD τ) (ucRefs τ sig) (V5 m d)

theorem hmain [∀ e, Nonempty (Elt F e)] (κ : GSem nD τ sig → ℕ) (d : Dev nD) :
    iprop((K (F := F)).ctx EH (PP m) κ ∗ (K (F := F)).tcSt EH d 0 ∗ (K (F := F)).tcRes m ρ d ∗ pipeGhost d)
      ⊢ wp frame (wpE ((K (F := F)).defs (D (F := F))) 𝒱 (SparseCore.T d) none) Set.univ (main d)
          fun _ => iprop((K (F := F)).tcSt EH d 1 ∗ FIN m d ∗ (K (F := F)).tcEnd d) := by
  obtain ⟨R, hR⟩ := tcSt_one (F := F) d
  have hheld : (unscopedBufs d (fun b => m ((SparseCore.T d : Thread nD τ).loc b)) : sProp 𝕄) = held (SparseCore.T d : Thread nD τ) (ucRefs τ sig) (V0 m d) :=
    Pipeline.unscopedBufs_held d (V0 m d)
  have h1 : (held (d.tc : Thread nD τ) (ucRefs τ sig) (after preOps (V0 m d)) : sProp 𝕄)
      = iprop((bigSep Finset.univ fun c : Fin ((K (F := F)).nCore 0) => (PP m).st 0 d c) ∗ held (SparseCore.T d : Thread nD τ) restRefs (V1 m d)) := held_before m d
  have hR' : (K (F := F)).tcSt EH d ((0 : Fin 1).val + 1) = iprop(owesNone (F := F) d ∗ R) := hR
  have h3 : (held (d.tc : Thread nD τ) (ucRefs τ sig) (after midOps (V2 m d)) : sProp 𝕄) = held (SparseCore.T d : Thread nD τ) (ucRefs τ sig) (V3 m d) := rfl
  have h4 : (held (SparseCore.T d : Thread nD τ) (ucRefs τ sig) (afterTck (V3 m) d) : sProp 𝕄) = held (d.tc : Thread nD τ) (ucRefs τ sig) (V4 m d) := rfl
  have h5 : (held (d.tc : Thread nD τ) (ucRefs τ sig) (after postOps (V4 m d)) : sProp 𝕄) = FIN m d := rfl
  unfold SparseCore.Cfg.tcRes SparseCore.Cfg.tcEnd
  rw [hheld, main_eq]
  iintro ⟨#Hctx, Hst, ⟨Hb, Hheld, Hts, -⟩, HG⟩
  iapply (StableHlo.wp_seq (bd := none) (E := Set.univ) (𝒱 := 𝒱) (defs := (K (F := F)).defs (D (F := F))) d (ucRefs τ sig) _ preOps preOps_sub preOps_fresh (V0 m d)) $$ [Hb Hheld]
  · isplitl [Hb] <;> iassumption
  iintro ⟨Hb, Hheld⟩
  ihave Hheld := (Entails.of_eq h1) $$ Hheld
  icases Hheld with ⟨Hops, Hrest⟩
  rw [wp_bind]
  iapply ((K (F := F)).wp_run (D (F := F)) 𝒱 (EH := EH) (P := PP m) κ d 0) $$ [Hst Hops Hb Hts Hrest HG]
  isplitr; · iexact Hctx
  isplitl [Hst]; · iexact Hst
  isplitl [Hops]; · iexact Hops
  iintro ⟨Hst, Hdn⟩
  ihave Hheld := (Entails.of_eq (held_after m d).symm) $$ [Hdn Hrest]
  · isplitl [Hdn] <;> iassumption
  iapply (StableHlo.wp_seq (bd := none) (E := Set.univ) (𝒱 := 𝒱) (defs := (K (F := F)).defs (D (F := F))) d (ucRefs τ sig) _ midOps midOps_sub midOps_fresh (V2 m d)) $$ [Hb Hheld]
  · isplitl [Hb] <;> iassumption
  iintro ⟨Hb, Hheld⟩
  ihave Hheld := (Entails.of_eq h3) $$ Hheld
  ihave Hst := (Entails.of_eq hR') $$ Hst
  icases Hst with ⟨HO, HR⟩
  ihave Hlev := (SparseCore.Cfg.ctx_levAts κ) $$ Hctx
  rw [wp_bind]
  iapply (wp_tck (V3 m) d) $$ [Hb Hheld HO HG Hlev HR Hts]
  isplitl [HR Hts]
  · iintro ⟨Hb, Hheld, HO⟩
    ihave Hheld := (Entails.of_eq h4) $$ Hheld
    iapply (StableHlo.wp_seq (bd := none) (E := Set.univ) (𝒱 := 𝒱) (defs := (K (F := F)).defs (D (F := F))) d (ucRefs τ sig) _ postOps postOps_sub postOps_fresh (V4 m d)) $$ [Hb Hheld]
    · isplitl [Hb] <;> iassumption
    iintro ⟨Hb, Hheld⟩
    ihave Hheld := (Entails.of_eq h5) $$ Hheld
    rw [wp_pure]
    imodintro
    isplitl [HO HR]
    · iapply (Entails.of_eq hR.symm)
      isplitl [HO] <;> iassumption
    isplitl [Hheld]; · iexact Hheld
    isplitl [Hb] <;> iassumption
  isplitl [Hb]; · iexact Hb
  isplitl [Hheld]; · iexact Hheld
  isplitl [HO]; · iexact HO
  isplitl [Hlev]; · iexact Hlev
  iexact HG

end Cert.Proof.KernelIdeal

end
-- ==== Proof.KernelIdeal.Run.lean ====
/-
  The run of the whole program from any memory with zero counters: it ends, every semaphore counter is back at zero, and
  every unscoped buffer of the TensorCore holds what @main's last valuation says.
-/
module

public import proofs.«01_k».proof.Proof.KernelIdeal.Main

@[expose] public section

noncomputable section

namespace Cert.Proof.KernelIdeal

open Cert.KernelIdeal Cert.KernelIdeal.Gen

open Idealize.ShloMosaic
open Idealize.ShloMosaic.SparseCore.Cfg (HIx)
open Idealize.ShloMosaic.StableHlo (held)
open Idealize.ShloMosaic.Pipeline (ucRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

variable (m : (ℓ : Loc nD τ sig) → Buf (Elt F) ℓ) (ρ : Dev nD → PrngReg)

/-! ## The launch element of the ghost state -/

/-- The pipeline's part: its staging cells and their first tokens. -/
abbrev uPipe : UP := initOf (Pipeline.cells (Pipeline.pin (pcfgs (F := F)) noTables) cellOf_inj) (Pipeline.launchToks (Pipeline.pin (pcfgs (F := F)) noTables) cellOf_inj)
def u₀ : UU := (initOf (K (F := F)).hsCells (K (F := F)).hsToks, (uPipe (F := F), 1))

theorem hu₀ : (ownU (u₀ (F := F)) : sProp 𝕄)
    ⊢ |={Set.univ}=> iprop(BI.own (EH (initOf (K (F := F)).hsCells (K (F := F)).hsToks)) ∗ (bigSep Finset.univ fun d : Dev nD => pipeGhost (F := F) d)
        ∗ bigSep Finset.univ fun thr : Thread nD τ => bigSep Finset.univ fun q : Fin 1 => (PP m).x q thr) := by
  have hx : (bigSep Finset.univ fun thr : Thread nD τ => bigSep Finset.univ fun q : Fin 1 => (PP m).x q thr) = (iprop(emp) : sProp 𝕄) :=
    (bigSep_congr fun _ _ => bigSep_univ_of_subsingleton (0 : Fin 1)).trans (bigSep_emp_const _)
  have hE : (BI.own (embR (uPipe (F := F), (1 : Counters))) : sProp 𝕄) = BI.own (EP (uPipe (F := F))) := rfl
  have hg : (bigSep Finset.univ fun d : Dev nD => pipeGhost (F := F) d)
      = (iprop((bigSep Finset.univ fun c : Dev nD => bigSep Finset.univ fun p => Pipeline.cellsGhost (Pipeline.pin (pcfgs (F := F)) noTables) EP p c)
        ∗ (bigSep Finset.univ fun c : Dev nD => bigSep Finset.univ fun p => Pipeline.toksInit (Pipeline.pin (pcfgs (F := F)) noTables) EP p c)) : sProp 𝕄) := by
    unfold pipeGhost
    rw [bigSep_sep']
    congr 1
    · exact bigSep_congr fun c _ =>
        (bigSep_univ_of_subsingleton (Φ := fun p : Fin 1 => Pipeline.cellsGhost (Pipeline.pin (pcfgs (F := F)) noTables) EP p c) (0 : Fin 1)).symm
    · exact bigSep_congr fun c _ =>
        (bigSep_univ_of_subsingleton (Φ := fun p : Fin 1 => Pipeline.toksInit (Pipeline.pin (pcfgs (F := F)) noTables) EP p c) (0 : Fin 1)).symm
  rw [hx, hg]
  unfold u₀
  iintro Hu
  ihave H := (ownU_pair (initOf (K (F := F)).hsCells (K (F := F)).hsToks) (uPipe (F := F), (1 : Counters))) $$ Hu
  icases H with ⟨HH, HP⟩
  ihave HP := (Entails.of_eq hE) $$ HP
  imod (Pipeline.fund_ghost (Pipeline.pin (pcfgs (F := F)) noTables) EP cellOf_inj) $$ HP with ⟨HC, HT⟩
  imodintro
  isplitl [HH]; · iexact HH
  isplitl [HC HT]
  · isplitl [HC] <;> iassumption
  iempintro

/-! ## What the end of the run shows -/

/-- A held buffer's contents are the memory's. -/
theorem held_mem (d : Dev nD) (s' : Phys nD τ sig (Elt F)) (S : Finset (DevRef τ sig)) (W : Valuation τ sig (Elt F)) (b : DevRef τ sig) (hb : b ∈ S) :
    iprop(held (SparseCore.T d : Thread nD τ) S W ∗ SI s') ⊢ (⌜s'.mem.mem (d, b) = W b⌝ : sProp 𝕄) := by
  have hT : (held (SparseCore.T d : Thread nD τ) S W : sProp 𝕄)
      = iprop((((d, b) : Loc nD τ sig) ↦{fullShare} W b) ∗ held (SparseCore.T d : Thread nD τ) (S.erase b) W) := by
    unfold held; exact SparseCore.bigSep_erase' hb
  rw [hT]
  iintro ⟨⟨Hb, -⟩, HSI⟩
  ihave H := (SI_pointsTo_agree (st := s') (ℓ := (d, b)) (I := Finset.univ) (q := fullShare) (f := W b)) $$ [HSI Hb]
  · isplitl [HSI] <;> iassumption
  icases H with %h
  ipureintro; exact funext fun i => h i (Finset.mem_univ i)

def fq (d : Dev nD) (s' : Phys nD τ sig (Elt F)) : Prop := ∀ b : {b // b ∈ ucRefs τ sig}, s'.mem.mem (d, b.1) = V5 m d b.1

theorem hfin (d : Dev nD) (s' : Phys nD τ sig (Elt F)) : iprop(FIN m d ∗ SI s') ⊢ (⌜fq m d s'⌝ : sProp 𝕄) :=
  BIBase.Entails.trans (forall_intro fun b : {b // b ∈ ucRefs τ sig} => held_mem d s' _ _ b.1 b.2) pure_forall.2

/-- Every unscoped buffer at its last contents and every counter at zero. -/
def QC : PUnit × MemSt nD τ sig (Elt F) → Prop := fun r =>
  (∀ c : Dev nD, ∀ b : {b // b ∈ ucRefs τ sig}, r.2.mem (c, b.1) = V5 m c b.1) ∧ r.2.sem = fun _ => 0

theorem run_main [∀ e, Nonempty (Elt F e)] :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := PP m) (A := ∅) facts v₀
    (fun q hq => match q with | 0 => nomatch hq)
    (fun q _ => match q with | 0 => tileObl (opP m) (opT m) (opW m) (opB m) (opO m))
    (fun q _ => match q with | 0 => SparseCore.Cfg.VecSplit.of_plain (vecSplit (opP m) (opT m) (opW m) (opB m) (opO m)))
    m ρ main (fun d => pipeGhost d) (FIN m) (u₀ (F := F)) (sep_elim_left.trans (hu₀ m)) (hmain m ρ) (fq m) (hfin m) (QC m) (fun _ h hz => ⟨h, hz⟩)

end Cert.Proof.KernelIdeal

end
-- ==== Proof.KernelIdeal.Results.lean ====
/-
  What @main's buffers hold along the way, in terms of the four arguments, and the program's run with its result named and
  its arguments unchanged.
-/
module

public import proofs.«01_k».proof.Proof.KernelIdeal.Run

@[expose] public section

noncomputable section

namespace Cert.Proof.KernelIdeal

open Cert.KernelIdeal Cert.KernelIdeal.Gen

open Idealize.ShloMosaic Idealize.ShloMosaic.StableHlo
open Idealize.ShloMosaic.Pipeline (ucRefs)
open Idealize.SL.Sem

variable {F : FTy → Type} [FloatOps F]

variable (m : (ℓ : Loc nD τ sig) → Buf (Elt F) ℓ) (ρ : Dev nD → PrngReg)

/-! ## The four arguments of a device -/

abbrev argPred (d : Dev nD) : S8388608x1.Idx → Elt F .f32 := m (d, dr main_arg0)
abbrev argTarg (d : Dev nD) : S8388608x1.Idx → Elt F .f32 := m (d, dr main_arg1)
abbrev argBins (d : Dev nD) : S11.Idx → Elt F .f32 := m (d, dr main_arg2)
abbrev argWts (d : Dev nD) : S10.Idx → Elt F .f32 := m (d, dr main_arg3)

/-! ## At the SparseCore call -/

/-- A padded table: zeros with the table's elements written over from the front. -/
abbrev padWts (w : S10.Idx → Elt F .f32) : S16.Idx → Elt F .f32 :=
  Host.scatter scatter_S16_S1_S10_0_n_0_0 (fun _ b => b) (broadcastInDim S16 ![] bcast_S_S16 (constant S_ .f32 0x00000000#32 : FVec F S_ .f32))
    (broadcastInDim S1 ![] bcast_S_S1 (constantI S_ 32 0#32)) w
abbrev padBins (b : S11.Idx → Elt F .f32) : S16.Idx → Elt F .f32 :=
  Host.scatter scatter_S16_S1_S11_0_n_0_0 (fun _ b => b) (broadcastInDim S16 ![] bcast_S_S16 (constant S_ .f32 0x00000000#32 : FVec F S_ .f32))
    (broadcastInDim S1 ![] bcast_S_S1 (constantI S_ 32 0#32)) b

theorem opP_eq (d : Dev nD) : opP m d = shapeCast S8388608 (argPred m d) shapeCasts_S8388608x1_S8388608 := by
  unfold opP V1; after_results; rfl
theorem opT_eq (d : Dev nD) : opT m d = shapeCast S8388608 (argTarg m d) shapeCasts_S8388608x1_S8388608 := by
  unfold opT V1; after_results; rfl
theorem opW_eq (d : Dev nD) : opW m d = padWts (argWts m d) := by
  unfold opW V1; after_results; rfl
theorem opB_eq (d : Dev nD) : opB m d = padBins (argBins m d) := by
  unfold opB V1; after_results; rfl

theorem V1_arg0 (d : Dev nD) : V1 m d (dr main_arg0) = argPred m d := by unfold V1; after_results
theorem V1_arg1 (d : Dev nD) : V1 m d (dr main_arg1) = argTarg m d := by unfold V1; after_results
theorem V1_arg2 (d : Dev nD) : V1 m d (dr main_arg2) = argBins m d := by unfold V1; after_results
theorem V1_arg3 (d : Dev nD) : V1 m d (dr main_arg3) = argWts m d := by unfold V1; after_results

/-! ## At the pipeline's call -/

theorem V3_v9 (d : Dev nD) : V3 m d (dr main_v9) = shapeCast S65536x128 (opP m d) shapeCasts_S8388608_S65536x128 := by
  have h : V3 m d (dr main_v9) = shapeCast S65536x128 (V2 m d (dr main_v0) : S8388608.Idx → Elt F .f32) shapeCasts_S8388608_S65536x128 := by
    unfold V3; after_results; rfl
  rw [h, V2_ne m d (show dr main_v0 ≠ dr main_v8 by decide)]
theorem V3_v10 (d : Dev nD) : V3 m d (dr main_v10) = shapeCast S65536x128 (opT m d) shapeCasts_S8388608_S65536x128 := by
  have h : V3 m d (dr main_v10) = shapeCast S65536x128 (V2 m d (dr main_v1) : S8388608.Idx → Elt F .f32) shapeCasts_S8388608_S65536x128 := by
    unfold V3; after_results; rfl
  rw [h, V2_ne m d (show dr main_v1 ≠ dr main_v8 by decide)]
theorem V3_v8 (d : Dev nD) : V3 m d (dr main_v8) = scSums m d := by
  have h : V3 m d (dr main_v8) = V2 m d (dr main_v8) := by unfold V3; after_results
  rw [h, V2_sums]
theorem V3_arg0 (d : Dev nD) : V3 m d (dr main_arg0) = argPred m d := by
  have h : V3 m d (dr main_arg0) = V2 m d (dr main_arg0) := by unfold V3; after_results
  rw [h, V2_ne m d (show dr main_arg0 ≠ dr main_v8 by decide), V1_arg0]
theorem V3_arg1 (d : Dev nD) : V3 m d (dr main_arg1) = argTarg m d := by
  have h : V3 m d (dr main_arg1) = V2 m d (dr main_arg1) := by unfold V3; after_results
  rw [h, V2_ne m d (show dr main_arg1 ≠ dr main_v8 by decide), V1_arg1]
theorem V3_arg2 (d : Dev nD) : V3 m d (dr main_arg2) = argBins m d := by
  have h : V3 m d (dr main_arg2) = V2 m d (dr main_arg2) := by unfold V3; after_results
  rw [h, V2_ne m d (show dr main_arg2 ≠ dr main_v8 by decide), V1_arg2]
theorem V3_arg3 (d : Dev nD) : V3 m d (dr main_arg3) = argWts m d := by
  have h : V3 m d (dr main_arg3) = V2 m d (dr main_arg3) := by unfold V3; after_results
  rw [h, V2_ne m d (show dr main_arg3 ≠ dr main_v8 by decide), V1_arg3]

/-! ## At the end -/

/-- The program's result on a device: the two calls' partial sums, added and divided by the number of elements. -/
def outcome (d : Dev nD) : FVec F S_ .f32 :=
  Host.divf (addf (Host.reduceAdd (scSums m d : FVec F S512 .f32) (constant S_ .f32 0x00000000#32) reducesTo_S512_S_d0 h_S_)
    (Host.reduceAdd (accOut (V3 m) d) (constant S_ .f32 0x00000000#32) reducesTo_S8x128_S_d0_1 h_S_)) (constant S_ .f32 0x4B000000#32)

theorem V5_v15 (d : Dev nD) : V5 m d (dr main_v15) = outcome m d := by
  have h : V5 m d (dr main_v15) = (Host.divf (addf (Host.reduceAdd (V4 m d (dr main_v8) : FVec F S512 .f32) (constant S_ .f32 0x00000000#32) reducesTo_S512_S_d0 h_S_)
    (Host.reduceAdd (V4 m d (dr main_v11) : FVec F S8x128 .f32) (constant S_ .f32 0x00000000#32) reducesTo_S8x128_S_d0_1 h_S_)) (constant S_ .f32 0x4B000000#32) : FVec F S_ .f32) := by
    unfold V5; after_results
  rw [h]
  unfold V4 outcome
  rw [afterTck_out, afterTck_ne (V3 m) d (dr main_v8) (by decide), V3_v8]
theorem V5_arg0 (d : Dev nD) : V5 m d (dr main_arg0) = argPred m d := by
  have h : V5 m d (dr main_arg0) = V4 m d (dr main_arg0) := by unfold V5; after_results
  rw [h]; unfold V4; rw [afterTck_ne (V3 m) d (dr main_arg0) (by decide), V3_arg0]
theorem V5_arg1 (d : Dev nD) : V5 m d (dr main_arg1) = argTarg m d := by
  have h : V5 m d (dr main_arg1) = V4 m d (dr main_arg1) := by unfold V5; after_results
  rw [h]; unfold V4; rw [afterTck_ne (V3 m) d (dr main_arg1) (by decide), V3_arg1]
theorem V5_arg2 (d : Dev nD) : V5 m d (dr main_arg2) = argBins m d := by
  have h : V5 m d (dr main_arg2) = V4 m d (dr main_arg2) := by unfold V5; after_results
  rw [h]; unfold V4; rw [afterTck_ne (V3 m) d (dr main_arg2) (by decide), V3_arg2]
theorem V5_arg3 (d : Dev nD) : V5 m d (dr main_arg3) = argWts m d := by
  have h : V5 m d (dr main_arg3) = V4 m d (dr main_arg3) := by unfold V5; after_results
  rw [h]; unfold V4; rw [afterTck_ne (V3 m) d (dr main_arg3) (by decide), V3_arg3]

/-- From any memory with zero counters: the program ends with its result at `outcome`, its arguments unchanged and every
    counter at zero. -/
theorem run [∀ e, Nonempty (Elt F e)] :
    θ_run (Cert.KernelIdeal.defs (F := F)) (Cert.KernelIdeal.threads (F := F)) ⟨m, fun _ => 0, ρ⟩ fun r =>
      (∀ c : Dev nD, r.2.mem ((c.tc : Thread nD τ).loc main_v15) = outcome m c
        ∧ (r.2.mem ((c.tc : Thread nD τ).loc main_arg0) = m ((c.tc : Thread nD τ).loc main_arg0)
          ∧ r.2.mem ((c.tc : Thread nD τ).loc main_arg1) = m ((c.tc : Thread nD τ).loc main_arg1)
          ∧ r.2.mem ((c.tc : Thread nD τ).loc main_arg2) = m ((c.tc : Thread nD τ).loc main_arg2)
          ∧ r.2.mem ((c.tc : Thread nD τ).loc main_arg3) = m ((c.tc : Thread nD τ).loc main_arg3)))
      ∧ r.2.sem = fun _ => 0 :=
  (θ_run (Cert.KernelIdeal.defs (F := F)) _ _).mono (fun r h => by
    have hm : ∀ (b : Ref sig .tc), b ∈ ([main_v15, main_arg0, main_arg1, main_arg2, main_arg3] : List (Ref sig .tc)) → dr b ∈ ucRefs τ sig := by decide
    have hr : ∀ (c : Dev nD) (b : Ref sig .tc), b ∈ ([main_v15, main_arg0, main_arg1, main_arg2, main_arg3] : List (Ref sig .tc)) →
        r.2.mem (c, dr b) = V5 m c (dr b) := fun c b hb => h.1 c ⟨dr b, hm b hb⟩
    exact ⟨fun c => ⟨(hr c main_v15 (by decide)).trans (V5_v15 m c), (hr c main_arg0 (by decide)).trans (V5_arg0 m c),
      (hr c main_arg1 (by decide)).trans (V5_arg1 m c), (hr c main_arg2 (by decide)).trans (V5_arg2 m c),
      (hr c main_arg3 (by decide)).trans (V5_arg3 m c)⟩, h.2⟩) (run_main m ρ)

end Cert.Proof.KernelIdeal

end
-- ==== Proof.Maths.Bins.lean ====
/-
  The bin of a target, by its three computations, over the extended reals.

  `InBin e t k` says that of the inner edges `e 1 … e 9` the target `t` has reached exactly the first `k`. It pins `k` down among
  `0 … 9` (`InBin.unique`). The three computations each give such a `k`: the truncated quotient of the distance from the first edge
  (`inBin_trunc`, at evenly spaced edges), the chain of selects (`chain_eq`), and the count of the reached edges, less one, clamped
  (`count_clamp`).
-/
module

public import Idealize.ShloMosaic.PureOps.Ideal
public import Mathlib.Data.EReal.Operations
public import Mathlib.Tactic.FieldSimp

@[expose] public section

noncomputable section

namespace Cert.Proof.Maths

open Idealize.ShloMosaic

/-- Of the inner edges, the target has reached exactly the first `k`. -/
def InBin (e : ℕ → EReal) (t : EReal) (k : ℕ) : Prop := k ≤ 9 ∧ ∀ j, 1 ≤ j → j ≤ 9 → (j ≤ k ↔ e j ≤ t)

theorem InBin.unique {e : ℕ → EReal} {t : EReal} {k k' : ℕ} (h : InBin e t k) (h' : InBin e t k') : k = k' := by
  rcases Nat.lt_trichotomy k k' with hlt | heq | hgt
  · have := (h.2 k' (by omega) h'.1).2 ((h'.2 k' (by omega) h'.1).1 le_rfl); omega
  · exact heq
  · have := (h'.2 k (by omega) h.1).2 ((h.2 k (by omega) h.1).1 le_rfl); omega

/-- Edges that every inner edge of the other table agrees with at `t` bin `t` alike. -/
theorem InBin.congr {e e' : ℕ → EReal} {t : EReal} {k : ℕ} (h : InBin e t k)
    (ha : ∀ j, 1 ≤ j → j ≤ 9 → (e j ≤ t ↔ e' j ≤ t)) : InBin e' t k :=
  ⟨h.1, fun j h1 h9 => (h.2 j h1 h9).trans (ha j h1 h9)⟩

/-- Edge `j` of ten evenly spaced bins from `b0` to `b10`. -/
def even (b0 b10 : EReal) (j : ℕ) : EReal := b0 + (j : ℝ) * Ideal.div (b10 - b0) ((10 : ℝ) : EReal)

/-- The truncated, clamped quotient. -/
def truncBin (b0 b10 t : EReal) : BitVec 32 :=
  IntOp.minsi 9#32 (IntOp.maxsi 0#32 (Ideal.fptosi 32 ((t - b0) * Ideal.div ((10 : ℝ) : EReal) (b10 - b0))))

/-- A number within the 32-bit range, clamped to `0 … 9`. -/
theorem clamp_ofInt (z : ℤ) (hlo : -2147483648 ≤ z) (hhi : z ≤ 2147483647) :
    (IntOp.minsi 9#32 (IntOp.maxsi 0#32 (BitVec.ofInt 32 z))).toNat = (max 0 (min 9 z)).toNat := by
  have hz : (BitVec.ofInt 32 z).toInt = z := by
    rw [BitVec.toInt_ofInt]; exact Int.bmod_eq_of_le (by norm_num; omega) (by norm_num; omega)
  have h0 : (0#32 : BitVec 32).toInt = 0 := by decide
  have h9 : (9#32 : BitVec 32).toInt = 9 := by decide
  have hn : 0 ≤ z → (BitVec.ofInt 32 z).toNat = z.toNat := fun h => by
    rw [BitVec.toNat_ofInt, Int.emod_eq_of_lt h (by norm_num; omega)]
  unfold IntOp.minsi IntOp.maxsi
  simp only [BitVec.slt, BitVec.sle, hz, h0, decide_eq_true_eq]
  split_ifs <;> simp_all <;> omega

theorem even_coe (b0 b10 : ℝ) (j : ℕ) : even b0 b10 j = ((b0 + j * ((b10 - b0) * (1 / 10)) : ℝ) : EReal) := by
  unfold even
  rw [show ((b10 : EReal) - (b0 : EReal)) = ((b10 - b0 : ℝ) : EReal) from rfl, Ideal.div_coe (by norm_num)]
  norm_cast

theorem inBin_trunc {b0 b10 : EReal} (h0 : ⊥ < b0) (hlt : b0 < b10) (h10 : b10 < ⊤) (t : EReal) :
    InBin (even b0 b10) t (truncBin b0 b10 t).toNat := by
  lift b0 to ℝ using ⟨(hlt.trans h10).ne, h0.ne'⟩
  lift b10 to ℝ using ⟨h10.ne, (h0.trans hlt).ne'⟩
  have hr : b0 < b10 := by exact_mod_cast hlt
  have hd : 0 < b10 - b0 := by linarith
  have hsub : ((b10 : EReal) - (b0 : EReal)) = ((b10 - b0 : ℝ) : EReal) := rfl
  have heven : ∀ j : ℕ, even b0 b10 j = ((b0 + j * ((b10 - b0) * (1 / 10)) : ℝ) : EReal) := even_coe b0 b10
  have hdiv : Ideal.div ((10 : ℝ) : EReal) ((b10 : EReal) - (b0 : EReal)) = ((10 * (1 / (b10 - b0)) : ℝ) : EReal) := by
    rw [hsub, Ideal.div_coe hd.ne']; norm_cast
  have hpos : (0 : ℝ) < 10 * (1 / (b10 - b0)) := by positivity
  unfold truncBin
  rw [hdiv]
  induction t with
  | bot =>
    have hb : ((⊥ : EReal) - (b0 : EReal)) * ((10 * (1 / (b10 - b0)) : ℝ) : EReal) = ⊥ := by
      rw [EReal.bot_sub, EReal.bot_mul_coe_of_pos hpos]
    rw [hb, Ideal.fptosi, Ideal.toIntClamped_bot, clamp_ofInt _ (by norm_num) (by norm_num)]
    refine ⟨by norm_num, fun j h1 h9 => ?_⟩
    rw [heven]
    simp only [le_bot_iff, EReal.coe_ne_bot, iff_false]
    norm_num; omega
  | top =>
    have hb : ((⊤ : EReal) - (b0 : EReal)) * ((10 * (1 / (b10 - b0)) : ℝ) : EReal) = ⊤ := by
      rw [EReal.top_sub_coe, EReal.top_mul_coe_of_pos hpos]
    rw [hb, Ideal.fptosi, Ideal.toIntClamped_top, clamp_ofInt _ (by norm_num) (by norm_num)]
    refine ⟨by norm_num, fun j h1 h9 => ?_⟩
    simp only [le_top, iff_true]
    norm_num; omega
  | coe r =>
    have hb : ((r : EReal) - (b0 : EReal)) * ((10 * (1 / (b10 - b0)) : ℝ) : EReal)
        = (((r - b0) * (10 * (1 / (b10 - b0))) : ℝ) : EReal) := by norm_cast
    rw [hb, Ideal.fptosi, Ideal.toIntClamped_coe]
    set y : ℝ := (r - b0) * (10 * (1 / (b10 - b0))) with hy
    have key : ∀ j : ℕ, (even b0 b10 j ≤ (r : EReal)) ↔ (j : ℝ) ≤ y := fun j => by
      rw [heven, EReal.coe_le_coe_iff, hy]
      have : (r - b0) * (10 * (1 / (b10 - b0))) = (r - b0) * 10 / (b10 - b0) := by ring
      rw [this, le_div_iff₀ hd]
      constructor <;> intro h <;> nlinarith
    have hcl := clamp_ofInt (max (-(2 ^ (32 - 1) : ℕ)) (min ((2 ^ (32 - 1) : ℕ) - 1) (if 0 ≤ y then ⌊y⌋ else ⌈y⌉)))
      (by norm_num) (by norm_num)
    rw [hcl]
    refine ⟨by omega, fun j h1 h9 => ?_⟩
    rw [key]
    split_ifs with hy0
    · have hf : ((j : ℤ) ≤ ⌊y⌋) ↔ (j : ℝ) ≤ y := by rw [Int.le_floor]; norm_cast
      rw [← hf]; norm_num; omega
    · have hc : ⌈y⌉ ≤ 0 := Int.ceil_le.2 (by push_cast; linarith)
      have hj : ¬ (j : ℝ) ≤ y := by
        have : (1 : ℝ) ≤ j := by exact_mod_cast h1
        intro h; linarith
      simp only [hj, iff_false]
      norm_num; omega

/-- The first inner edge lies past the first edge, and the last inner edge before the last. -/
theorem even_one_ge {b0 b10 : EReal} (h0 : ⊥ < b0) (hlt : b0 < b10) (h10 : b10 < ⊤) : b0 ≤ even b0 b10 1 := by
  lift b0 to ℝ using ⟨(hlt.trans h10).ne, h0.ne'⟩
  lift b10 to ℝ using ⟨h10.ne, (h0.trans hlt).ne'⟩
  have hr : b0 < b10 := by exact_mod_cast hlt
  rw [even_coe, EReal.coe_le_coe_iff]
  norm_num; linarith
theorem even_nine_le {b0 b10 : EReal} (h0 : ⊥ < b0) (hlt : b0 < b10) (h10 : b10 < ⊤) : even b0 b10 9 ≤ b10 := by
  lift b0 to ℝ using ⟨(hlt.trans h10).ne, h0.ne'⟩
  lift b10 to ℝ using ⟨h10.ne, (h0.trans hlt).ne'⟩
  have hr : b0 < b10 := by exact_mod_cast hlt
  rw [even_coe, EReal.coe_le_coe_iff]
  norm_num; linarith

/-- The count of the reached edges among `e 0 … e 10`, less one, clamped. -/
theorem count_clamp {e : ℕ → EReal} {t : EReal} {k : ℕ} (h : InBin e t k) (h0 : e 0 ≤ e 10) (h01 : 1 ≤ k → e 0 ≤ t)
    (h910 : e 10 ≤ t → 9 ≤ k) (C : ℕ) (hC : C = (Finset.univ.filter fun q : Fin 11 => e q.val ≤ t).card) :
    max (0 : ℤ) (min 9 ((C : ℤ) - 1)) = k := by
  have hk : ∀ j, 1 ≤ j → j ≤ 9 → ((if e j ≤ t then 1 else 0 : ℕ) = if j ≤ k then 1 else 0) := fun j h1 h9 => by
    simp only [h.2 j h1 h9]
  rw [Finset.card_filter] at hC
  simp only [Fin.sum_univ_succ, Finset.univ_unique, Finset.sum_singleton] at hC
  norm_num [Fin.val_succ] at hC
  rw [hk 1 (by norm_num) (by norm_num), hk 2 (by norm_num) (by norm_num), hk 3 (by norm_num) (by norm_num),
    hk 4 (by norm_num) (by norm_num), hk 5 (by norm_num) (by norm_num), hk 6 (by norm_num) (by norm_num),
    hk 7 (by norm_num) (by norm_num), hk 8 (by norm_num) (by norm_num), hk 9 (by norm_num) (by norm_num)] at hC
  have hk9 := h.1
  by_cases ht0 : e 0 ≤ t
  · by_cases ht10 : e 10 ≤ t
    · have := h910 ht10
      have hk' : k = 9 := by omega
      subst hk'
      simp [ht0, ht10] at hC; omega
    · simp only [ht0, ht10, if_true, if_false] at hC
      interval_cases k <;> simp at hC <;> subst hC <;> rfl
  · have hk0 : k = 0 := by by_contra hc; exact ht0 (h01 (by omega))
    have ht10 : ¬ e 10 ≤ t := fun hc => ht0 (h0.trans hc)
    subst hk0
    simp [ht0, ht10] at hC
    subst hC; rfl

/-- The chain of selects picks the weight of the last reached inner edge. -/
theorem chain_eq {e : ℕ → EReal} {t : EReal} {k : ℕ} (h : InBin e t k) {α : Type} (w : ℕ → α) :
    (if e 9 ≤ t then w 9 else if e 8 ≤ t then w 8 else if e 7 ≤ t then w 7 else if e 6 ≤ t then w 6
      else if e 5 ≤ t then w 5 else if e 4 ≤ t then w 4 else if e 3 ≤ t then w 3 else if e 2 ≤ t then w 2
      else if e 1 ≤ t then w 1 else w 0) = w k := by
  have hk9 := h.1
  simp only [← h.2 1 (by norm_num) (by norm_num), ← h.2 2 (by norm_num) (by norm_num),
    ← h.2 3 (by norm_num) (by norm_num), ← h.2 4 (by norm_num) (by norm_num), ← h.2 5 (by norm_num) (by norm_num),
    ← h.2 6 (by norm_num) (by norm_num), ← h.2 7 (by norm_num) (by norm_num), ← h.2 8 (by norm_num) (by norm_num),
    ← h.2 9 (by norm_num) (by norm_num)]
  interval_cases k <;> rfl

end Cert.Proof.Maths

end
-- ==== Proof.Maths.Sums.lean ====
/-
  Sums over ranges of indices: a sum by rows of a row-major numbering is the sum of the whole range.
-/
module

public import Mathlib.Algebra.BigOperators.Intervals
public import Mathlib.Algebra.BigOperators.Fin

@[expose] public section

namespace Cert.Proof.Maths

variable {M : Type} [AddCommMonoid M]

/-- Rows of `k` numbers, `m` of them, one after another. -/
theorem sum_rows (k m : ℕ) (f : ℕ → M) :
    ∑ i ∈ Finset.range m, ∑ j ∈ Finset.range k, f (i * k + j) = ∑ n ∈ Finset.range (m * k), f n := by
  induction m with
  | zero => simp
  | succ m ih => rw [Finset.sum_range_succ, ih, Nat.succ_mul, Finset.sum_range_add]

/-- A range cut in two. -/
theorem sum_cut (a b : ℕ) (f : ℕ → M) :
    ∑ n ∈ Finset.range a, f n + ∑ n ∈ Finset.range b, f (a + n) = ∑ n ∈ Finset.range (a + b), f n :=
  (Finset.sum_range_add f a b).symm

/-- Lanes gathered over a run of vectors: `l` lanes, each summed over `m` vectors of `l` numbers. -/
theorem sum_lanes (l m : ℕ) (f : ℕ → M) :
    ∑ j ∈ Finset.range l, ∑ i ∈ Finset.range m, f (i * l + j) = ∑ n ∈ Finset.range (m * l), f n := by
  rw [Finset.sum_comm, sum_rows]

/-- Tiles of lanes: tile `t` of `l` lanes holds, lane by lane, the sum of its own run of `m` vectors. -/
theorem sum_tiles (T l m : ℕ) (f : ℕ → M) :
    ∑ x ∈ Finset.range (T * l), ∑ i ∈ Finset.range m, f (x / l * (m * l) + i * l + x % l)
      = ∑ n ∈ Finset.range (T * (m * l)), f n := by
  rcases Nat.eq_zero_or_pos l with rfl | hl
  · simp
  rw [← sum_rows l T, ← sum_rows (m * l) T]
  refine Finset.sum_congr rfl fun t _ => ?_
  rw [← sum_lanes l m]
  refine Finset.sum_congr rfl fun j hj => Finset.sum_congr rfl fun i _ => ?_
  have hj' := Finset.mem_range.1 hj
  have h1 : (t * l + j) / l = t := by
    rw [mul_comm, Nat.mul_add_div hl, Nat.div_eq_of_lt hj', add_zero]
  have h2 : (t * l + j) % l = j := by
    rw [mul_comm, Nat.mul_add_mod, Nat.mod_eq_of_lt hj']
  rw [h1, h2, add_assoc]

/-- A row of the accumulator: row `r` of `R` rows of `l` lanes gathers, over `B` blocks of `A` groups of such rows, the
    numbers at its own place in every group. -/
theorem sum_groups (B A R l : ℕ) (f : ℕ → M) :
    ∑ r ∈ Finset.range R, ∑ c ∈ Finset.range l, ∑ b ∈ Finset.range B, ∑ a ∈ Finset.range A,
        f ((b * (A * R) + a * R + r) * l + c)
      = ∑ n ∈ Finset.range (B * (A * R) * l), f n := by
  have e1 : ∀ g : ℕ → M, ∑ r ∈ Finset.range R, ∑ b ∈ Finset.range B, ∑ a ∈ Finset.range A, g (b * (A * R) + a * R + r)
      = ∑ n ∈ Finset.range (B * (A * R)), g n := fun g => by
    rw [Finset.sum_comm, ← sum_rows (A * R) B]
    refine Finset.sum_congr rfl fun b _ => ?_
    rw [← sum_lanes R A]
    simp only [add_assoc]
  rw [← sum_rows l, ← e1 fun x => ∑ j ∈ Finset.range l, f (x * l + j)]
  refine Finset.sum_congr rfl fun r _ => ?_
  rw [Finset.sum_comm]
  refine Finset.sum_congr rfl fun b _ => ?_
  rw [Finset.sum_comm]

end Cert.Proof.Maths

end
-- ==== Proof.Value.Tables.lean ====
/-
  The loss of one element over the extended reals, and the padded tables the tiles read: the first entries of a padded table
  are the table's own.
-/
module

public import proofs.«01_k».proof.Proof.KernelIdeal.Results
public import proofs.«01_k».proof.Proof.Maths.Bins
public import proofs.«01_k».proof.Proof.Maths.Sums
public import Idealize.ShloMosaic.Lib.ValueIdx
public import Idealize.ShloMosaic.Lib.ValueIdxRank1
public import Idealize.ShloMosaic.PureOps.Ideal.Laws

@[expose] public section

noncomputable section

namespace Cert.Proof.Value

open Cert.KernelIdeal Cert.KernelIdeal.Gen
open Idealize.ShloMosaic
open Cert.Proof.Maths Cert.Proof.KernelIdeal

/-! ## Arrays as functions of a number -/

/-- Element `n` of a rank-1 array, zero beyond its end. -/
def nth {N : ℕ} (a : (⟨1, ![N]⟩ : Shape).Idx → EReal) (n : ℕ) : EReal := if h : n < N then a (ix1 ⟨n, h⟩) else 0

theorem nth_of {N : ℕ} (a : (⟨1, ![N]⟩ : Shape).Idx → EReal) {n : ℕ} (x : (⟨1, ![N]⟩ : Shape).Idx) (h : (x 0).val = n) : a x = nth a n := by
  subst h
  have hx : (x 0).val < N := (x 0).isLt
  unfold nth
  rw [dif_pos hx]
  exact congrArg a (eq_ix1 x)

/-- The loss of element `n`: the weight of the target's bin times the squared difference. -/
def loss (b0 b10 : EReal) (w p t : ℕ → EReal) (n : ℕ) : EReal :=
  w (truncBin b0 b10 (t n)).toNat * ((p n - t n) * (p n - t n))

/-! ## Words -/

theorem ofBits_ten : Ideal.ofBits .f32 0x41200000#32 = ((10 : ℝ) : EReal) := by
  simp [Ideal.ofBits, Ideal.ieee]
  rw [← EReal.coe_mul]
  norm_num

/-! ## A scatter that writes a table over the front of zeros -/

/-- Writes at distinct places, in any order: each place ends at what was written there. -/
theorem foldl_set {ι κ α : Type} [DecidableEq κ] (f : ι → κ) (hf : Function.Injective f) (v : ι → α) :
    ∀ (l : List ι) (x : κ → α) (n : ι), n ∈ l →
      l.foldl (fun r m => fun k => if k = f m then v m else r k) x (f n) = v n := by
  intro l
  induction l using List.reverseRecOn with
  | nil => intro x n h; exact absurd h List.not_mem_nil
  | append_singleton l m ih =>
    intro x n h
    rw [List.foldl_append]
    simp only [List.foldl_cons, List.foldl_nil]
    by_cases e : f n = f m
    · rw [if_pos e, hf e]
    · rw [if_neg e]
      refine ih x n ?_
      rcases List.mem_append.1 h with h | h
      · exact h
      · exact absurd (congrArg f (List.mem_singleton.1 h)) e

/-- Such a scatter, from where its updates go. -/
theorem scatter_at {s si u : Shape} {α : Type} {w : ℕ} (d : ScatterDims s si u) (x : s.Idx → α) (idx : IVec si w) (upd : u.Idx → α)
    (f : Fin u.numel → s.Idx) (hf : Function.Injective f) (hr : ∀ n, d.resultIdx? (u.rowMajor.symm n) idx = some (f n)) (n : Fin u.numel) :
    Host.scatter d (fun _ b => b) x idx upd (f n) = upd (u.rowMajor.symm n) := by
  unfold Host.scatter
  simp only [hr]
  exact foldl_set f hf (fun n => upd (u.rowMajor.symm n)) _ x n (List.mem_finRange n)

/-- Where the updates of the weights go: to the place of their own number. -/
theorem wts_at : ∀ n : Fin S10.numel, scatter_S16_S1_S10_0_n_0_0.resultIdx? (S10.rowMajor.symm n) (broadcastInDim S1 ![] bcast_S_S1 (constantI S_ 32 0#32))
    = some (ix1 (n.castLE (by decide))) := by decide +kernel
theorem bins_at : ∀ n : Fin S11.numel, scatter_S16_S1_S11_0_n_0_0.resultIdx? (S11.rowMajor.symm n) (broadcastInDim S1 ![] bcast_S_S1 (constantI S_ 32 0#32))
    = some (ix1 (n.castLE (by decide))) := by decide +kernel
theorem wts_num : ∀ n : Fin S10.numel, S10.rowMajor.symm n = ix1 (n.cast (by decide)) := by decide +kernel
theorem bins_num : ∀ n : Fin S11.numel, S11.rowMajor.symm n = ix1 (n.cast (by decide)) := by decide +kernel

theorem padWts_eq (w : S10.Idx → EReal) (x : S16.Idx) (k : ℕ) (hk : k < 10) (hx : (x 0).val = k) :
    padWts (F := Ideal) w x = nth w k := by
  have h10 : S10.numel = 10 := by decide
  have h := scatter_at scatter_S16_S1_S10_0_n_0_0 (broadcastInDim S16 ![] bcast_S_S16 (constant S_ .f32 0x00000000#32 : FVec Ideal S_ .f32))
    (broadcastInDim S1 ![] bcast_S_S1 (constantI S_ 32 0#32)) w (fun n => ix1 (n.castLE (by decide)))
    (fun a b e => by
      have := congrArg Fin.val (congrFun e 0)
      exact Fin.ext this) wts_at ⟨k, by omega⟩
  rw [wts_num] at h
  have hx' : x = ix1 ⟨k, by omega⟩ := (eq_ix1 x).trans (congrArg ix1 (Fin.ext hx))
  rw [hx']
  exact h.trans (nth_of w _ rfl)

theorem padBins_eq (b : S11.Idx → EReal) (x : S16.Idx) (k : ℕ) (hk : k < 11) (hx : (x 0).val = k) :
    padBins (F := Ideal) b x = nth b k := by
  have h11 : S11.numel = 11 := by decide
  have h := scatter_at scatter_S16_S1_S11_0_n_0_0 (broadcastInDim S16 ![] bcast_S_S16 (constant S_ .f32 0x00000000#32 : FVec Ideal S_ .f32))
    (broadcastInDim S1 ![] bcast_S_S1 (constantI S_ 32 0#32)) b (fun n => ix1 (n.castLE (by decide)))
    (fun a b e => by
      have := congrArg Fin.val (congrFun e 0)
      exact Fin.ext this) bins_at ⟨k, by omega⟩
  rw [bins_num] at h
  have hx' : x = ix1 ⟨k, by omega⟩ := (eq_ix1 x).trans (congrArg ix1 (Fin.ext hx))
  rw [hx']
  exact h.trans (nth_of b _ rfl)

end Cert.Proof.Value

end
-- ==== Proof.Value.Tiles.lean ====
/-
  The SparseCore tiles' partial sums over the extended reals: together they are the losses of the first 3670016 elements.
-/
module

public import proofs.«01_k».proof.Proof.Value.Tables

@[expose] public section

noncomputable section

namespace Cert.Proof.Value

open Cert.KernelIdeal Cert.KernelIdeal.Gen
open Idealize.ShloMosaic
open Cert.Proof.Maths Cert.Proof.KernelIdeal

theorem entry_0 (f : S16.Idx → EReal) : extractAt ![0] (extractStridedSlice S1 ![0] f slices_S16_o0_S1) inpos_S1_p0 = f (ix1 (⟨0, by decide⟩ : Fin 16)) := by
  unfold extractAt extractStridedSlice
  congr 1
  funext a
  match a with | 0 => rfl
theorem entry_10 (f : S16.Idx → EReal) : extractAt ![0] (extractStridedSlice S1 ![10] f slices_S16_o10_S1) inpos_S1_p0 = f (ix1 (⟨10, by decide⟩ : Fin 16)) := by
  unfold extractAt extractStridedSlice
  congr 1
  funext a
  match a with | 0 => rfl

/-- The first edge, splat. -/
theorem first_edge (b : S11.Idx → EReal) (x : S16.Idx) : k0_pay7 (F := Ideal) (padBins (F := Ideal) b) x = nth b 0 := by
  rw [← padBins_eq b (ix1 (⟨0, by decide⟩ : Fin 16)) 0 (by norm_num) rfl]
  unfold k0_pay7
  exact entry_0 (padBins (F := Ideal) b)

/-- Ten over the edges' span, splat. -/
theorem span_edge (b : S11.Idx → EReal) (x : S16.Idx) :
    k0_pay8 (F := Ideal) (padBins (F := Ideal) b) x = Ideal.div ((10 : ℝ) : EReal) (nth b 10 - nth b 0) := by
  rw [← first_edge b x, ← ofBits_ten, ← padBins_eq b (ix1 (⟨10, by decide⟩ : Fin 16)) 10 (by norm_num) rfl]
  unfold k0_pay8
  exact congrArg (fun z => Ideal.div _ (z - _)) (entry_10 (padBins (F := Ideal) b))

/-- Where a trip's lane lies in its chunk. -/
theorem trip_idx (k : Fin k0_t1_loop.trips) (x : S16.Idx) : ((tripRect k).idx x 0).val = 16 * k.val + (x 0).val := by
  have h : ∀ k : Fin k0_t1_loop.trips, k0_off2 k 0 = 16 * k.val := by decide +kernel
  show k0_off2 k 0 + 1 * (x 0).val = _
  rw [h k]; omega

/-- Where a chunk's element lies in the flat array. -/
theorem chunk_idx (L : grid0.Coords) (r : Fin 7) (x : S16384.Idx) :
    ((chunkRect L r).idx x 0).val = ((L 1).val * 2 + (L 0).val) * 114688 + 16384 * r.val + (x 0).val := by
  show k0_off1 L (BitVec.ofNat 32 (16384 * r.val)) 0 + 1 * (x 0).val = _
  rw [chunk_off]; omega

section

variable (p t : S8388608.Idx → EReal) (w : S10.Idx → EReal) (b : S11.Idx → EReal)

/-- One element's loss, by the arrays. -/
abbrev lossAt (n : ℕ) : EReal := loss (nth b 0) (nth b 10) (nth w) (nth p) (nth t) n

/-- A trip adds one loss to each lane. -/
theorem trip_loss (L : grid0.Coords) (r : Fin 7) (k : Fin k0_t1_loop.trips) (acc : FVec Ideal S16 .f32) (x : S16.Idx) :
    tripVal (F := Ideal) (k0_pay7 (padBins (F := Ideal) b)) (k0_pay8 (padBins (F := Ideal) b)) (chunkVal (F := Ideal) L t r) (chunkVal (F := Ideal) L p r)
        (padWts (F := Ideal) w) k acc x
      = acc x + lossAt p t w b (((L 1).val * 2 + (L 0).val) * 114688 + (r.val * 1024 + k.val) * 16 + (x 0).val) := by
  set n := ((L 1).val * 2 + (L 0).val) * 114688 + (r.val * 1024 + k.val) * 16 + (x 0).val with hn
  have hidx : ((chunkRect L r).idx ((tripRect k).idx x) 0).val = n := by rw [chunk_idx, trip_idx]; omega
  have ht : chunkVal (F := Ideal) L t r ((tripRect k).idx x) = nth t n := nth_of t _ hidx
  have hp : chunkVal (F := Ideal) L p r ((tripRect k).idx x) = nth p n := nth_of p _ hidx
  have hb : binIdx (F := Ideal) (k0_pay7 (padBins (F := Ideal) b)) (k0_pay8 (padBins (F := Ideal) b))
      (fun x => chunkVal (F := Ideal) L t r ((tripRect k).idx x)) x = truncBin (nth b 0) (nth b 10) (nth t n) := by
    unfold truncBin
    rw [← ht, ← span_edge b x, ← first_edge b x]
    rfl
  have hlt := binIdx_lt (F := Ideal) (k0_pay7 (padBins (F := Ideal) b)) (k0_pay8 (padBins (F := Ideal) b))
      (fun x => chunkVal (F := Ideal) L t r ((tripRect k).idx x)) x
  have hw : loadIdx (F := Ideal) (padWts (F := Ideal) w) ![binIdx (F := Ideal) (k0_pay7 (padBins (F := Ideal) b)) (k0_pay8 (padBins (F := Ideal) b))
      (fun x => chunkVal (F := Ideal) L t r ((tripRect k).idx x))] (binIdx_inb _ _ _) x = nth w (truncBin (nth b 0) (nth b 10) (nth t n)).toNat := by
    rw [← hb]
    exact padWts_eq w _ _ hlt rfl
  unfold lossAt loss
  rw [← hw, ← hp, ← ht]
  rfl

theorem trips_loss (L : grid0.Coords) (r : Fin 7) (acc : FVec Ideal S16 .f32) (x : S16.Idx) : ∀ n, n ≤ 1024 →
    tripsVal (F := Ideal) (k0_pay7 (padBins (F := Ideal) b)) (k0_pay8 (padBins (F := Ideal) b)) (chunkVal (F := Ideal) L t r) (chunkVal (F := Ideal) L p r)
        (padWts (F := Ideal) w) acc n x
      = acc x + ∑ k ∈ Finset.range n, lossAt p t w b (((L 1).val * 2 + (L 0).val) * 114688 + (r.val * 1024 + k) * 16 + (x 0).val) := by
  have htr : k0_t1_loop.trips = 1024 := by decide
  intro n
  induction n with
  | zero => intro _; simp [tripsVal]
  | succ n ih =>
    intro hn
    have h := tripsVal_succ (F := Ideal) (k0_pay7 (padBins (F := Ideal) b)) (k0_pay8 (padBins (F := Ideal) b)) (chunkVal (F := Ideal) L t r) (chunkVal (F := Ideal) L p r)
        (padWts (F := Ideal) w) acc ⟨n, by omega⟩
    rw [show tripsVal (F := Ideal) _ _ _ _ _ acc (n + 1) = _ from h, trip_loss, ih (by omega), Finset.sum_range_succ, add_assoc]

theorem tile_loss (L : grid0.Coords) (x : S16.Idx) : ∀ n, n ≤ 7 →
    tileVal (F := Ideal) L p t (padWts (F := Ideal) w) (padBins (F := Ideal) b) n x
      = ∑ k ∈ Finset.range (n * 1024), lossAt p t w b (((L 1).val * 2 + (L 0).val) * 114688 + k * 16 + (x 0).val) := by
  intro n
  induction n with
  | zero =>
    intro _
    rw [Nat.zero_mul, Finset.sum_range_zero]
    exact Ideal.ofBits_zero_f32
  | succ n ih =>
    intro hn
    rw [tileVal, dif_pos (by omega : n < 7), trips_loss p t w b L ⟨n, by omega⟩ _ x 1024 le_rfl, ih (by omega), Nat.succ_mul,
      Finset.sum_range_add]

/-- The 512 partial sums sum to the losses of the first 3670016 elements. -/
theorem tiles_sum : ∑ x : S512.Idx, outVal (F := Ideal) p t (padWts (F := Ideal) w) (padBins (F := Ideal) b) x
    = ∑ n ∈ Finset.range 3670016, lossAt p t w b n := by
  have h : ∀ a : Fin 512, outVal (F := Ideal) p t (padWts (F := Ideal) w) (padBins (F := Ideal) b) (ix1 a)
      = ∑ k ∈ Finset.range 7168, lossAt p t w b (a.val / 16 * (7168 * 16) + k * 16 + a.val % 16) := fun a => by
    unfold outVal
    rw [tile_loss p t w b _ _ 7 le_rfl]
    refine Finset.sum_congr rfl fun k _ => congrArg _ ?_
    show (a.val / 32 * 2 + a.val / 16 % 2) * 114688 + k * 16 + a.val % 16 = _
    omega
  rw [sum_idx1]
  simp only [h]
  rw [Fin.sum_univ_eq_sum_range (fun a => ∑ k ∈ Finset.range 7168, lossAt p t w b (a / 16 * (7168 * 16) + k * 16 + a % 16)) 512]
  exact sum_tiles 32 16 7168 (lossAt p t w b)

end

end Cert.Proof.Value

end
-- ==== Proof.Value.Grid.lean ====
/-
  The TensorCore pipeline's accumulator over the extended reals: its 8 × 128 sums together are the losses of the elements from
  3670016 on, at edges whose inner ones bin every target as evenly spaced ones would.
-/
module

public import proofs.«01_k».proof.Proof.Value.Tables

@[expose] public section

noncomputable section

namespace Cert.Proof.Value

open Cert.KernelIdeal Cert.KernelIdeal.Gen
open Idealize.ShloMosaic
open Cert.Proof.Maths Cert.Proof.KernelIdeal

theorem sel_oge {α : Type} (a b : EReal) (x y : α) : Scalar.select (FloatOps.cmpf (F := Ideal) (φ := .f32) .oge a b) x y = if b ≤ a then x else y := by
  show Scalar.select (BitVec.ofBool (decide (b ≤ a))) x y = _
  by_cases h : b ≤ a
  · simp [h, Scalar.select]
  · simp [h, Scalar.select]

/-- The chain of selects: the weight of the last of the nine edges the target has reached. -/
def chain (e w : ℕ → EReal) (t : EReal) : EReal :=
  if e 9 ≤ t then w 9 else if e 8 ≤ t then w 8 else if e 7 ≤ t then w 7 else if e 6 ≤ t then w 6
    else if e 5 ≤ t then w 5 else if e 4 ≤ t then w 4 else if e 3 ≤ t then w 3 else if e 2 ≤ t then w 2
    else if e 1 ≤ t then w 1 else w 0

/-- Row `r` of group `a` of a block. -/
abbrev rowOf (a : Fin 512) (r : Fin 8) : Fin 4096 := ⟨a.val * 8 + r.val, by omega⟩

/-- What one grid point adds to each element of the accumulator. -/
theorem step_at (x1 : S11.Idx → EReal) (x2 : S10.Idx → EReal) (x3 x4 : FVec Ideal S4096x128 .f32) (x5 : FVec Ideal S8x128 .f32) (r : Fin 8) (l : Fin 128) :
    tckStep (F := Ideal) x1 x2 x3 x4 x5 (ix2 r l)
      = x5 (ix2 r l) + ∑ a : Fin 512, chain (nth x1) (nth x2) (x4 (ix2 (rowOf a r) l))
          * ((x3 (ix2 (rowOf a r) l) - x4 (ix2 (rowOf a r) l)) * (x3 (ix2 (rowOf a r) l) - x4 (ix2 (rowOf a r) l))) := by
  have he : ∀ (k : ℕ) (hk : k < 11), x1 (edgeAt k hk) = nth x1 k := fun k hk => nth_of x1 _ rfl
  have hw : ∀ (k : ℕ) (hk : k < 10), x2 (weightAt k hk) = nth x2 k := fun k hk => nth_of x2 _ rfl
  unfold tckStep
  simp only [he, hw]
  unfold k1_pay1 k1_pay5 k1_pay3 k1_pay4
  simp only [shapeCast_id]
  refine (congrArg (x5 (ix2 r l) + ·) (Ideal.multiReduction_add_single (φ := .f32) _ _ _ _ _ _)).trans (congrArg (x5 (ix2 r l) + ·) ?_)
  refine Finset.sum_congr rfl fun a _ => ?_
  rw [shapeCast_apply _ _ _ (ix2 (rowOf a r) l) (by
    rw [rowMajor_val2 _ 128 rfl, rowMajor_val3 _ 1024 128 rfl rfl]
    show (a.val * 8 + r.val) * 128 + l.val = a.val * 1024 + r.val * 128 + l.val
    omega)]
  unfold chain
  simp only [← sel_oge]
  rfl

/-! ## The blocks -/

section

variable (V : Dev nD → Valuation τ sig (Elt Ideal)) (c : Dev nD) (p t : S8388608.Idx → EReal) (w : S10.Idx → EReal) (b : S11.Idx → EReal)

theorem flat_at (p : S8388608.Idx → EReal) (y : Fin 65536) (l : Fin 128) :
    shapeCast S65536x128 p shapeCasts_S8388608_S65536x128 (ix2 y l) = nth p (y.val * 128 + l.val) := by
  have hlt : y.val * 128 + l.val < 8388608 := by omega
  rw [shapeCast_apply _ _ _ (ix1 ⟨y.val * 128 + l.val, hlt⟩) (by rw [rowMajor_val1, rowMajor_val2 _ 128 rfl]; rfl)]
  exact nth_of p _ rfl

theorem edge_blk (n : Fin cfg1.N) (hb : V c (Proc.devRef .tc main_arg2) = b) : edgeBlk (F := Ideal) V c n = b := by
  funext y
  rw [← hb]
  have hi : ∀ n : Fin grid1.N, win1_0.index n 0 = 0 := by decide +kernel
  exact congrArg (V c (Proc.devRef .tc main_arg2) : S11.Idx → EReal) (funext fun a => Fin.ext (by
    match a with
    | ⟨0, _⟩ => show win1_0.index n 0 * 11 + 1 * (y 0).val = (y 0).val; rw [hi n]; omega))

theorem weight_blk (n : Fin cfg1.N) (hw : V c (Proc.devRef .tc main_arg3) = w) : weightBlk (F := Ideal) V c n = w := by
  funext y
  rw [← hw]
  have hi : ∀ n : Fin grid1.N, win1_1.index n 0 = 0 := by decide +kernel
  exact congrArg (V c (Proc.devRef .tc main_arg3) : S10.Idx → EReal) (funext fun a => Fin.ext (by
    match a with
    | ⟨0, _⟩ => show win1_1.index n 0 * 10 + 1 * (y 0).val = (y 0).val; rw [hi n]; omega))

theorem block_lt (n : Fin cfg1.N) : n.val < 9 := lt_of_lt_of_eq n.isLt N_1

theorem pred_blk (n : Fin cfg1.N) (hp : V c (Proc.devRef .tc main_v9) = shapeCast S65536x128 p shapeCasts_S8388608_S65536x128) (y : Fin 4096) (l : Fin 128) :
    predBlk (F := Ideal) V c n (ix2 y l) = nth p (3670016 + ((n.val * 4096 + y.val) * 128 + l.val)) := by
  have hn := block_lt n
  have hi : ∀ n : Fin grid1.N, win1_2.index n 0 = n.val + 7 ∧ win1_2.index n 1 = 0 := by decide +kernel
  have h : predBlk (F := Ideal) V c n (ix2 y l) = (V c (Proc.devRef .tc main_v9) : S65536x128.Idx → EReal) (ix2 ⟨(n.val + 7) * 4096 + y.val, by omega⟩ l) :=
    congrArg (V c (Proc.devRef .tc main_v9) : S65536x128.Idx → EReal) (funext fun a => Fin.ext (by
      match a with
      | ⟨0, _⟩ => show win1_2.index n 0 * 4096 + 1 * y.val = (n.val + 7) * 4096 + y.val; rw [(hi n).1]; omega
      | ⟨1, _⟩ => show win1_2.index n 1 * 128 + 1 * l.val = l.val; rw [(hi n).2]; omega))
  rw [h, hp, flat_at]
  exact congrArg _ (by show ((n.val + 7) * 4096 + y.val) * 128 + l.val = _; omega)

theorem targ_blk (n : Fin cfg1.N) (ht : V c (Proc.devRef .tc main_v10) = shapeCast S65536x128 t shapeCasts_S8388608_S65536x128) (y : Fin 4096) (l : Fin 128) :
    targBlk (F := Ideal) V c n (ix2 y l) = nth t (3670016 + ((n.val * 4096 + y.val) * 128 + l.val)) := by
  have hn := block_lt n
  have hi : ∀ n : Fin grid1.N, win1_3.index n 0 = n.val + 7 ∧ win1_3.index n 1 = 0 := by decide +kernel
  have h : targBlk (F := Ideal) V c n (ix2 y l) = (V c (Proc.devRef .tc main_v10) : S65536x128.Idx → EReal) (ix2 ⟨(n.val + 7) * 4096 + y.val, by omega⟩ l) :=
    congrArg (V c (Proc.devRef .tc main_v10) : S65536x128.Idx → EReal) (funext fun a => Fin.ext (by
      match a with
      | ⟨0, _⟩ => show win1_3.index n 0 * 4096 + 1 * y.val = (n.val + 7) * 4096 + y.val; rw [(hi n).1]; omega
      | ⟨1, _⟩ => show win1_3.index n 1 * 128 + 1 * l.val = l.val; rw [(hi n).2]; omega))
  rw [h, ht, flat_at]
  exact congrArg _ (by show ((n.val + 7) * 4096 + y.val) * 128 + l.val = _; omega)

/-! ## The sums -/

/-- The loss of one element with its weight taken by the chain of selects. -/
def chainLoss (e w p t : ℕ → EReal) (n : ℕ) : EReal := chain e w (t n) * ((p n - t n) * (p n - t n))

variable (hp : V c (Proc.devRef .tc main_v9) = shapeCast S65536x128 p shapeCasts_S8388608_S65536x128)
  (ht : V c (Proc.devRef .tc main_v10) = shapeCast S65536x128 t shapeCasts_S8388608_S65536x128)
  (hb : V c (Proc.devRef .tc main_arg2) = b) (hw : V c (Proc.devRef .tc main_arg3) = w)

include hp ht hb hw

/-- Grid point `n`'s step, by the arrays. -/
theorem point_at (n : Fin cfg1.N) (x5 : FVec Ideal S8x128 .f32) (r : Fin 8) (l : Fin 128) :
    tckStep (F := Ideal) (edgeBlk (F := Ideal) V c n) (weightBlk (F := Ideal) V c n) (predBlk (F := Ideal) V c n) (targBlk (F := Ideal) V c n) x5 (ix2 r l)
      = x5 (ix2 r l) + ∑ a ∈ Finset.range 512, chainLoss (nth b) (nth w) (nth p) (nth t) (3670016 + ((n.val * (512 * 8) + a * 8 + r.val) * 128 + l.val)) := by
  rw [step_at, edge_blk V c b n hb, weight_blk V c w n hw]
  simp only [pred_blk V c p n hp, targ_blk V c t n ht]
  rw [← Fin.sum_univ_eq_sum_range (fun a => chainLoss (nth b) (nth w) (nth p) (nth t) (3670016 + ((n.val * (512 * 8) + a * 8 + r.val) * 128 + l.val))) 512]
  refine congrArg _ (Finset.sum_congr rfl fun a _ => ?_)
  unfold chainLoss
  rw [show n.val * (512 * 8) + a.val * 8 + r.val = n.val * 4096 + (a.val * 8 + r.val) by omega]

theorem acc_at (r : Fin 8) (l : Fin 128) : ∀ (n : ℕ) (h : n < cfg1.N), accAt (F := Ideal) V c n h (ix2 r l)
    = ∑ k ∈ Finset.range (n + 1), ∑ a ∈ Finset.range 512, chainLoss (nth b) (nth w) (nth p) (nth t) (3670016 + ((k * (512 * 8) + a * 8 + r.val) * 128 + l.val)) := by
  intro n
  induction n with
  | zero =>
    intro h
    rw [accAt, point_at V c p t w b hp ht hb hw, Finset.sum_range_one]
    have h0 : k1_pay2 (F := Ideal) (ix2 r l) = 0 := Ideal.ofBits_zero_f32
    rw [h0, zero_add]
  | succ n ih =>
    intro h
    rw [accAt, point_at V c p t w b hp ht hb hw, ih, ← Finset.sum_range_succ (fun k => ∑ a ∈ Finset.range 512, chainLoss (nth b) (nth w) (nth p) (nth t) (3670016 + ((k * (512 * 8) + a * 8 + r.val) * 128 + l.val)))]

/-- The 8 × 128 sums sum to the losses of the elements from 3670016 on. -/
theorem acc_sum : ∑ x : S8x128.Idx, accOut (F := Ideal) V c x
    = ∑ n ∈ Finset.range 4718592, chainLoss (nth b) (nth w) (nth p) (nth t) (3670016 + n) := by
  rw [sum_idx2]
  unfold accOut
  simp only [acc_at V c p t w b hp ht hb hw]
  rw [Fin.sum_univ_eq_sum_range (fun r => ∑ l : Fin 128, ∑ k ∈ Finset.range (8 + 1), ∑ a ∈ Finset.range 512, chainLoss (nth b) (nth w) (nth p) (nth t) (3670016 + ((k * (512 * 8) + a * 8 + r) * 128 + l.val))) 8]
  refine (Finset.sum_congr rfl fun r _ => Fin.sum_univ_eq_sum_range (fun l => ∑ k ∈ Finset.range (8 + 1), ∑ a ∈ Finset.range 512,
    chainLoss (nth b) (nth w) (nth p) (nth t) (3670016 + ((k * (512 * 8) + a * 8 + r) * 128 + l))) 128).trans ?_
  exact sum_groups 9 512 8 128 fun n => chainLoss (nth b) (nth w) (nth p) (nth t) (3670016 + n)

end

end Cert.Proof.Value

end
-- ==== Proof.Value.Reference.lean ====
/-
  The reference over the extended reals: its result is the losses of all elements, summed and divided by their number, at edges
  whose inner ones bin every target as evenly spaced ones would.
-/
module

public import proofs.«01_k».proof.Proof.Gen.ReferenceIdeal.Run
public import proofs.«01_k».proof.Proof.Value.Tables
public import Idealize.ShloMosaic.Lib.StableHlo.Predicate
public import Idealize.ShloMosaic.Lib.ReduceAll

@[expose] public section

noncomputable section

namespace Cert.Proof.Value.Ref

open Cert.ReferenceIdeal Cert.ReferenceIdeal.Gen
open Idealize.ShloMosaic Idealize.ShloMosaic.StableHlo.Predicate
open Cert.Proof.Maths Cert.Proof.Value

/-! ## The reference's steps -/

/-- How many edges each target has reached. -/
def count (t : FVec Ideal S8388608x1 .f32) (b : FVec Ideal S11 .f32) : IVec S8388608 32 :=
  Host.reduce IntOp.addi (extui 32 (cmpf .oge (broadcastInDim S8388608x11 ![0, 1] bcast_S8388608x1_S8388608x11_0_1 (broadcastInDim S8388608x1 ![0] bcast_S8388608_S8388608x1_0 (shapeCast S8388608 t shapeCasts_S8388608x1_S8388608)))
    (broadcastInDim S8388608x11 ![0, 1] bcast_S1x11_S8388608x11_0_1 (broadcastInDim S1x11 ![1] bcast_S11_S1x11_1 b))) natLt_1_32) (constantI S_ 32 0#32) reducesTo_S8388608x11_S8388608_d1 h_S_

/-- The bin of each target. -/
def bin (t : FVec Ideal S8388608x1 .f32) (b : FVec Ideal S11 .f32) : IVec S8388608 32 :=
  minsi (broadcastInDim S8388608 ![] bcast_S_S8388608 (id (constantI S_ 32 9#32))) (maxsi (broadcastInDim S8388608 ![] bcast_S_S8388608 (id (constantI S_ 32 0#32)))
    (subi (count t b) (broadcastInDim S8388608 ![] bcast_S_S8388608 (constantI S_ 32 1#32))))

/-- The lookup of a table at a column of positions: a negative position counts from the end, one outside the table gives the filler. -/
def column (i : IVec S8388608 32) : IVec S8388608x1 32 :=
  broadcastInDim S8388608x1 ![0] bcast_S8388608_S8388608x1_0 (select (cmpi .slt i (broadcastInDim S8388608 ![] bcast_S_S8388608 (constantI S_ 32 0#32)))
    (addi i (broadcastInDim S8388608 ![] bcast_S_S8388608 (constantI S_ 32 10#32))) i)

def inside (k : IVec S8388608x1 32) : IVec S8388608 1 :=
  Host.reduce IntOp.andi (andi (cmpi .sge k (broadcastInDim S8388608x1 ![] bcast_S_S8388608x1 (constantI S_ 32 0#32)))
    (cmpi .sle k (broadcastInDim S8388608x1 ![0, 1] bcast_S1x1_S8388608x1_0_1 (broadcastInDim S1x1 ![1] bcast_S1_S1x1_1 (constantI S1 32 9#32)))))
    (constantI S_ 1 1#1) reducesTo_S8388608x1_S8388608_d1 h_S_

def take (w : FVec Ideal S10 .f32) (i : IVec S8388608 32) : FVec Ideal S8388608 .f32 :=
  select (inside (column i)) (Host.gather gather_S10_S8388608x1_S8388608_n_0_n_n_0_1_1 w (column i))
    (broadcastInDim S8388608 ![] bcast_S_S8388608 (constant S_ .f32 0x7FC00000#32))

def result (p t : FVec Ideal S8388608x1 .f32) (b : FVec Ideal S11 .f32) (w : FVec Ideal S10 .f32) : FVec Ideal S_ .f32 :=
  Host.divf (Host.reduceAdd (mulf (shapeCast S8388608x1 (take w (bin t b)) shapeCasts_S8388608_S8388608x1) (mulf (subf p t) (subf p t)))
    (constant S_ .f32 0x00000000#32) reducesTo_S8388608x1_S_d0_1 h_S_) (constant S_ .f32 0x4B000000#32)

theorem res_eq (m : (ℓ : Loc nD τ sig) → Buf (Elt Ideal) ℓ) (c : Dev nD) :
    Cert.ReferenceIdeal.Value.res_main_v17 (F := Ideal) m c
      = result (m ((c.tc : Thread nD τ).loc main_arg0)) (m ((c.tc : Thread nD τ).loc main_arg1)) (m ((c.tc : Thread nD τ).loc main_arg2)) (m ((c.tc : Thread nD τ).loc main_arg3)) := rfl

/-! ## Small words -/

theorem small_words (v : BitVec 32) (h : v.toNat ≤ 9) :
    IntOp.cmpi .slt v 0#32 = 0#1 ∧ IntOp.cmpi .sge v 0#32 = 1#1 ∧ IntOp.cmpi .sle v 9#32 = 1#1 ∧ v.toInt.toNat = v.toNat := by
  obtain ⟨k, hk, rfl⟩ : ∃ k, k ≤ 9 ∧ v = BitVec.ofNat 32 k := ⟨v.toNat, h, by simp⟩
  interval_cases k <;> decide

theorem pick_then {α : Type} (a b : α) : Scalar.select 1#1 a b = a := rfl
theorem pick_else {α : Type} (a b : α) : Scalar.select 0#1 a b = b := rfl

theorem count_words (v : BitVec 32) (h : v.toNat ≤ 11) :
    (IntOp.minsi 9#32 (IntOp.maxsi 0#32 (IntOp.subi v 1#32))).toNat = (max (0 : ℤ) (min 9 ((v.toNat : ℤ) - 1))).toNat := by
  obtain ⟨k, hk, rfl⟩ : ∃ k, k ≤ 11 ∧ v = BitVec.ofNat 32 k := ⟨v.toNat, h, by simp⟩
  interval_cases k <;> decide

/-! ## The steps at an element -/

theorem one_eq {n : ℕ} (k : Fin n) : (Shape.Idx.ofFin k : (⟨1, ![n]⟩ : Shape).Idx) = ix1 k := funext fun a => by match a with | ⟨0, _⟩ => rfl

variable (p t : FVec Ideal S8388608x1 .f32) (b : FVec Ideal S11 .f32) (w : FVec Ideal S10 .f32)

/-- A column as a flat array. -/
abbrev flat (t : FVec Ideal S8388608x1 .f32) : S8388608.Idx → EReal := shapeCast S8388608 t shapeCasts_S8388608x1_S8388608

theorem flat_at (n : Fin 8388608) : nth (flat t) n.val = t (ix2 n 0) := by
  refine (nth_of (flat t) (ix1 n) rfl).symm.trans ?_
  exact shapeCast_apply _ _ _ _ (by rw [rowMajor_val1, rowMajor_val2 _ 1 rfl]; show n.val * 1 + 0 = n.val; omega)

theorem count_at (n : Fin 8388608) : (count t b (ix1 n)).toNat = (Finset.univ.filter fun q : Fin 11 => nth b q.val ≤ nth (flat t) n.val).card := by
  unfold count
  rw [toNat_reduce_count_cols (by norm_num)]
  congr 1
  refine Finset.filter_congr fun q _ => ?_
  show BitVec.ofBool (decide (_ ≤ _)) = 1#1 ↔ _
  rw [ofBool_eq_one_iff, decide_eq_true_eq]
  show broadcastInDim S8388608x11 ![0, 1] bcast_S1x11_S8388608x11_0_1 (broadcastInDim S1x11 ![1] bcast_S11_S1x11_1 b) (ij n q)
    ≤ broadcastInDim S8388608x11 ![0, 1] bcast_S8388608x1_S8388608x11_0_1 (broadcastInDim S8388608x1 ![0] bcast_S8388608_S8388608x1_0 (flat t)) (ij n q) ↔ _
  rw [bcast_rows, bcast_cols, nth_of b (Shape.Idx.ofFin q) (n := q.val) rfl, nth_of (flat t) (Shape.Idx.ofFin n) (n := n.val) rfl]

theorem total (x : FVec Ideal S8388608x1 .f32) :
    Host.reduceAdd x (constant S_ .f32 0x00000000#32) reducesTo_S8388608x1_S_d0_1 h_S_ ix0 = ∑ n : Fin 8388608, x (ix2 n 0) := by
  show Ideal.hostReduceAdd reducesTo_S8388608x1_S_d0_1 x (Ideal.ofBits .f32 0x00000000#32) ix0 = _
  rw [Ideal.hostReduceAdd_total _ (fun a => a.elim0), Ideal.ofBits_zero_f32, zero_add, sum_idx2]
  simp only [Fin.sum_univ_one]

theorem quotient (x : FVec Ideal S_ .f32) (k : BitVec 32) : Host.divf x (constant S_ .f32 k) ix0 = Ideal.div (x ix0) (Ideal.ofBits .f32 k) := rfl

theorem prod_at {s : Shape} (x y : FVec Ideal s .f32) (i : s.Idx) : mulf x y i = x i * y i := rfl
theorem diff_at {s : Shape} (x y : FVec Ideal s .f32) (i : s.Idx) : subf x y i = x i - y i := rfl

/-- The edges bin every target as evenly spaced ones would. -/
structure Even (b : S11.Idx → EReal) (t : S8388608.Idx → EReal) : Prop where
  lo : ⊥ < nth b 0
  lt : nth b 0 < nth b 10
  hi : nth b 10 < ⊤
  agree : ∀ n < 8388608, ∀ j ≤ 10, (nth b j ≤ nth t n ↔ even (nth b 0) (nth b 10) j ≤ nth t n)

theorem Even.inBin {b : S11.Idx → EReal} {t : S8388608.Idx → EReal} (h : Even b t) (n : ℕ) (hn : n < 8388608) :
    InBin (nth b) (nth t n) (truncBin (nth b 0) (nth b 10) (nth t n)).toNat :=
  (inBin_trunc h.lo h.lt h.hi _).congr fun j _ h9 => (h.agree n hn j (by omega)).symm

variable {t b} (h : Even b (flat t))
include h

theorem bin_at (n : Fin 8388608) : (bin t b (ix1 n)).toNat = (truncBin (nth b 0) (nth b 10) (nth (flat t) n.val)).toNat := by
  have hin := h.inBin n.val n.isLt
  have hc := count_at t b n
  have hle : (count t b (ix1 n)).toNat ≤ 11 := by
    rw [hc]; exact (Finset.card_le_univ _).trans (by simp)
  have hk := count_clamp hin h.lt.le (fun h1 => ?_) (fun h10 => ?_) _ hc
  · show (IntOp.minsi 9#32 (IntOp.maxsi 0#32 (IntOp.subi (count t b (ix1 n)) 1#32))).toNat = _
    rw [count_words _ hle, hk]; rfl
  · exact (even_one_ge h.lo h.lt h.hi).trans ((h.agree n.val n.isLt 1 (by norm_num)).1 ((hin.2 1 le_rfl (by norm_num)).1 h1))
  · exact (hin.2 9 (by norm_num) le_rfl).2 ((h.agree n.val n.isLt 9 (by norm_num)).2 ((even_nine_le h.lo h.lt h.hi).trans h10))

theorem column_at (n : Fin 8388608) : column (bin t b) (ix2 n 0) = bin t b (ix1 n) := by
  have hb : (bin t b (ix1 n)).toNat ≤ 9 := by rw [bin_at h]; exact (h.inBin n.val n.isLt).1
  have hx : (ix2 n 0 : S8388608x1.Idx) = ixP n := funext fun a => by match a with | ⟨0, _⟩ => rfl | ⟨1, _⟩ => rfl
  unfold column
  rw [hx, bcast_col1, one_eq]
  show Scalar.select (IntOp.cmpi .slt (bin t b (ix1 n)) 0#32) _ _ = _
  rw [(small_words _ hb).1, pick_else]

theorem take_at (n : Fin 8388608) : take w (bin t b) (ix1 n) = nth w (truncBin (nth b 0) (nth b 10) (nth (flat t) n.val)).toNat := by
  have hb : ∀ n, (bin t b (ix1 n)).toNat ≤ 9 := fun n => by rw [bin_at h]; exact (h.inBin n.val n.isLt).1
  have hin : inside (column (bin t b)) (ix1 n) = 1#1 := by
    unfold inside
    refine Host.reduce_andi_one _ _ _ _ _ rfl fun i => ?_
    obtain ⟨k, rfl⟩ : ∃ k : Fin 8388608, i = ix2 k 0 := ⟨i 0, (eq_ix2 i).trans (congrArg (ix2 _) (Subsingleton.elim _ _))⟩
    show IntOp.andi (IntOp.cmpi .sge (column (bin t b) (ix2 k 0)) 0#32) (IntOp.cmpi .sle (column (bin t b) (ix2 k 0)) 9#32) = 1#1
    rw [column_at h, (small_words _ (hb k)).2.1, (small_words _ (hb k)).2.2.1]
    rfl
  unfold take
  show Scalar.select (inside (column (bin t b)) (ix1 n)) _ _ = _
  rw [hin, pick_then, ← one_eq]
  show Host.gather gather_S10_S8388608x1_S8388608_n_0_n_n_0_1_1 w (column (bin t b)) (Shape.Idx.ofFin n) = _
  rw [gather_take _ rfl rfl rfl rfl w _ n (by norm_num)]
  have hx : (ixP n : S8388608x1.Idx) = ix2 n 0 := funext fun a => by match a with | ⟨0, _⟩ => rfl | ⟨1, _⟩ => rfl
  refine nth_of w _ ?_
  show min (column (bin t b) (ixP n)).toInt.toNat 9 = _
  rw [hx, column_at h, (small_words _ (hb n)).2.2.2, bin_at h, min_eq_left]
  exact (h.inBin n.val n.isLt).1

theorem loss_at (n : Fin 8388608) : mulf (shapeCast S8388608x1 (take w (bin t b)) shapeCasts_S8388608_S8388608x1) (mulf (subf p t) (subf p t)) (ix2 n 0)
    = loss (nth b 0) (nth b 10) (nth w) (nth (flat p)) (nth (flat t)) n.val := by
  have e : shapeCast S8388608x1 (take w (bin t b)) shapeCasts_S8388608_S8388608x1 (ix2 n 0) = take w (bin t b) (ix1 n) :=
    shapeCast_apply _ _ _ (ix1 n) (by rw [rowMajor_val1, rowMajor_val2 _ 1 rfl]; show n.val = n.val * 1 + 0; omega)
  unfold loss
  rw [prod_at, prod_at, diff_at, e, take_at w h n, flat_at p n, flat_at t n]

theorem result_at : result p t b w ix0 = Ideal.div (∑ n ∈ Finset.range 8388608, loss (nth b 0) (nth b 10) (nth w) (nth (flat p)) (nth (flat t)) n) (Ideal.ofBits .f32 0x4B000000#32) := by
  have e := total (mulf (shapeCast S8388608x1 (take w (bin t b)) shapeCasts_S8388608_S8388608x1) (mulf (subf p t) (subf p t)))
  rw [Finset.sum_congr rfl fun n _ => loss_at p w h n] at e
  rw [Finset.sum_range, ← e]
  unfold result
  exact quotient _ _

end Cert.Proof.Value.Ref

end
-- ==== Proof.Value.Pre.lean ====
/-
  What the precondition says of the edges and the targets.
-/
module

public import proofs.«01_k».proof.Pre_no_target_between_edges
public import proofs.«01_k».proof.Proof.Value.Reference

@[expose] public section

noncomputable section

namespace Cert.Proof.Value.Pre

open Cert.Pre_no_target_between_edges
open Idealize.ShloMosaic Idealize.ShloMosaic.StableHlo.Predicate
open Cert.Proof.Maths Cert.Proof.Value

theorem facts : Facts where
  slices_S11_S1_0 := by decide
  shapeCasts_S1_S_ := by decide
  slices_S11_S1_10 := by decide
  bcast_S_S11 := by decide
  bcast_S11_S1x11_1 := by decide
  bcast_S8388608x1_S8388608x11_0_1 := by decide
  bcast_S1x11_S8388608x11_0_1 := by decide
  bcast_S_S8388608x11 := by decide

theorem minus_inf : Ideal.ofBits .f32 0xFF800000#32 = ⊥ := by simp [Ideal.ofBits, Ideal.ieee]
theorem plus_inf : Ideal.ofBits .f32 0x7F800000#32 = ⊤ := by simp [Ideal.ofBits, Ideal.ieee]

/-- Edge `k` read as the precondition reads it: a slice of one, then its only entry. -/
theorem slice_at (b : S11.Idx → EReal) (k : ℕ) (hs : S11.Slices ![k] S1) (hc : S1.ShapeCasts S_) (x : S_.Idx) :
    shapeCast S_ (extractStridedSlice S1 ![k] b hs) hc x = nth b k := by
  refine (shapeCast_apply _ hc x (ix1 0) ?_).trans ?_
  · exact Nat.lt_one_iff.1 (by simpa using (S1.rowMajor (ix1 0)).isLt) |>.trans (Nat.lt_one_iff.1 (by simpa using (S_.rowMajor x).isLt)).symm
  · exact nth_of b _ rfl

theorem bits {a b : BitVec 1} (h : IntOp.andi a b = 1#1) : a = 1#1 ∧ b = 1#1 := by
  revert a b; decide

theorem same_bits {p q : Prop} [Decidable p] [Decidable q] (h : IntOp.cmpi .eq (BitVec.ofBool (decide p)) (BitVec.ofBool (decide q)) = 1#1) : p ↔ q := by
  by_cases hp : p <;> by_cases hq : q <;> simp [hp, hq] at h ⊢ <;> exact absurd h (by decide)

section
variable [Facts] (t : FVec Ideal S8388608x1 .f32) (b : FVec Ideal S11 .f32)

abbrev first : FVec Ideal S_ .f32 := shapeCast S_ (extractStridedSlice S1 ![0] b Facts.slices_S11_S1_0) Facts.shapeCasts_S1_S_
abbrev last : FVec Ideal S_ .f32 := shapeCast S_ (extractStridedSlice S1 ![10] b Facts.slices_S11_S1_10) Facts.shapeCasts_S1_S_

theorem first_at (x : S_.Idx) : first b x = nth b 0 := slice_at b 0 _ _ x
theorem last_at (x : S_.Idx) : last b x = nth b 10 := slice_at b 10 _ _ x

/-- The evenly spaced edges the precondition compares with. -/
def spaced : FVec Ideal S11 .f32 :=
  addf (broadcastInDim S11 ![] Facts.bcast_S_S11 (first b)) (mulf (sitofp .f32 (iotaInDim S11 32 0))
    (broadcastInDim S11 ![] Facts.bcast_S_S11 (Host.divf (subf (last b) (first b)) (constant S_ .f32 0x41200000#32))))

theorem spaced_at (j : Fin 11) : spaced b (Shape.Idx.ofFin j) = even (nth b 0) (nth b 10) j.val := by
  have hi : ((((iotaInDim S11 32 0 (Shape.Idx.ofFin j)).toInt : ℤ) : ℝ) : EReal) = ((j.val : ℝ) : EReal) := by
    have hz : (iotaInDim S11 32 0 (Shape.Idx.ofFin j)).toInt = (j.val : ℤ) := by fin_cases j <;> rfl
    rw [hz, Int.cast_natCast]
  have e : spaced b (Shape.Idx.ofFin j) = broadcastInDim S11 ![] Facts.bcast_S_S11 (first b) (Shape.Idx.ofFin j)
      + ((((iotaInDim S11 32 0 (Shape.Idx.ofFin j)).toInt : ℤ) : ℝ) : EReal)
        * broadcastInDim S11 ![] Facts.bcast_S_S11 (Host.divf (subf (last b) (first b)) (constant S_ .f32 0x41200000#32)) (Shape.Idx.ofFin j) := rfl
  rw [e, hi, bcast_scalar _ (by decide), bcast_scalar _ (by decide), first_at]
  have q : ∀ x : S_.Idx, Host.divf (subf (last b) (first b)) (constant S_ .f32 0x41200000#32) x = Ideal.div (last b x - first b x) (Ideal.ofBits .f32 0x41200000#32) := fun _ => rfl
  rw [q, last_at, first_at, ofBits_ten]
  rfl

/-- Which targets have reached which of eleven edges. -/
def reached (e : FVec Ideal S11 .f32) : IVec S8388608x11 1 :=
  cmpf .oge (broadcastInDim S8388608x11 ![0, 1] Facts.bcast_S8388608x1_S8388608x11_0_1 t)
    (broadcastInDim S8388608x11 ![0, 1] Facts.bcast_S1x11_S8388608x11_0_1 (broadcastInDim S1x11 ![1] Facts.bcast_S11_S1x11_1 e))

theorem reached_at (e : FVec Ideal S11 .f32) (n : Fin 8388608) (j : Fin 11) :
    reached t e (ij n j) = BitVec.ofBool (decide (e (Shape.Idx.ofFin j) ≤ t (ixP n))) := by
  have q : reached t e (ij n j) = BitVec.ofBool (decide
      (broadcastInDim S8388608x11 ![0, 1] Facts.bcast_S1x11_S8388608x11_0_1 (broadcastInDim S1x11 ![1] Facts.bcast_S11_S1x11_1 e) (ij n j)
        ≤ broadcastInDim S8388608x11 ![0, 1] Facts.bcast_S8388608x1_S8388608x11_0_1 t (ij n j))) := rfl
  rw [q, bcast_cols, bcast_of_col]

theorem fn_at (a0 : FVec Ideal S8388608x1 .f32) (w : FVec Ideal S10 .f32) (n : Fin 8388608) (j : Fin 11) :
    fn (F := Ideal) a0 t b w (ij n j) = IntOp.andi
      (broadcastInDim S8388608x11 ![] Facts.bcast_S_S8388608x11 (andi (andi (cmpf .ogt (first b) (constant S_ .f32 0xFF800000#32)) (cmpf .olt (first b) (last b)))
        (cmpf .olt (last b) (constant S_ .f32 0x7F800000#32))) (ij n j))
      (IntOp.cmpi .eq (reached t b (ij n j)) (reached t (spaced b) (ij n j))) := rfl

theorem holds (a0 : FVec Ideal S8388608x1 .f32) (w : FVec Ideal S10 .f32)
    (h : ∀ i, fn (F := Ideal) a0 t b w i = 1#1) : Ref.Even b (Ref.flat t) := by
  have key : ∀ (n : Fin 8388608) (j : Fin 11), (⊥ < nth b 0 ∧ nth b 0 < nth b 10 ∧ nth b 10 < ⊤)
      ∧ (nth b j.val ≤ nth (Ref.flat t) n.val ↔ even (nth b 0) (nth b 10) j.val ≤ nth (Ref.flat t) n.val) := fun n j => by
    have e := h (ij n j)
    rw [fn_at, bcast_scalar _ (by decide), reached_at, reached_at, spaced_at] at e
    obtain ⟨e1, e2⟩ := bits e
    obtain ⟨e3, e4⟩ := bits e1
    obtain ⟨e5, e6⟩ := bits e3
    have hx : (ix2 n 0 : S8388608x1.Idx) = ixP n := funext fun a => by match a with | ⟨0, _⟩ => rfl | ⟨1, _⟩ => rfl
    rw [Ref.flat_at, hx]
    refine ⟨⟨?_, ?_, ?_⟩, ?_⟩
    · have e5 : BitVec.ofBool (decide (Ideal.ofBits .f32 0xFF800000#32 < first b _)) = 1#1 := e5
      rwa [ofBool_eq_one_iff, decide_eq_true_eq, first_at, minus_inf] at e5
    · have e6 : BitVec.ofBool (decide (first b _ < last b _)) = 1#1 := e6
      rwa [ofBool_eq_one_iff, decide_eq_true_eq, first_at, last_at] at e6
    · have e4 : BitVec.ofBool (decide (last b _ < Ideal.ofBits .f32 0x7F800000#32)) = 1#1 := e4
      rwa [ofBool_eq_one_iff, decide_eq_true_eq, last_at, plus_inf] at e4
    · have e2 := same_bits e2
      rwa [nth_of b (Shape.Idx.ofFin j) (n := j.val) rfl] at e2
  have k0 := (key 0 0).1
  exact ⟨k0.1, k0.2.1, k0.2.2, fun n hn j hj => (key ⟨n, hn⟩ ⟨j, by omega⟩).2⟩

end

end Cert.Proof.Value.Pre

end
-- ==== Proof.Value.Outcome.lean ====
/-
  The kernel's result over the extended reals: the losses of all elements, summed and divided by their number.
-/
module

public import proofs.«01_k».proof.Proof.KernelIdeal.Results
public import proofs.«01_k».proof.Proof.Value.Tiles
public import proofs.«01_k».proof.Proof.Value.Grid
public import proofs.«01_k».proof.Proof.Value.Pre

@[expose] public section

noncomputable section

namespace Cert.Proof.Value

open Cert.KernelIdeal Cert.KernelIdeal.Gen Cert.Proof.KernelIdeal
open Idealize.ShloMosaic
open Cert.Proof.Maths

theorem flat_total (x : FVec Ideal S512 .f32) :
    Host.reduceAdd x (constant S_ .f32 0x00000000#32) reducesTo_S512_S_d0 h_S_ ix0 = ∑ i : S512.Idx, x i := by
  show Ideal.hostReduceAdd reducesTo_S512_S_d0 x (Ideal.ofBits .f32 0x00000000#32) ix0 = _
  rw [Ideal.hostReduceAdd_total _ (fun a => a.elim0), Ideal.ofBits_zero_f32, zero_add]

theorem block_total (x : FVec Ideal S8x128 .f32) :
    Host.reduceAdd x (constant S_ .f32 0x00000000#32) reducesTo_S8x128_S_d0_1 h_S_ ix0 = ∑ i : S8x128.Idx, x i := by
  show Ideal.hostReduceAdd reducesTo_S8x128_S_d0_1 x (Ideal.ofBits .f32 0x00000000#32) ix0 = _
  rw [Ideal.hostReduceAdd_total _ (fun a => a.elim0), Ideal.ofBits_zero_f32, zero_add]

theorem quotient (x y : FVec Ideal S_ .f32) (k : BitVec 32) :
    Host.divf (addf x y) (constant S_ .f32 k) ix0 = Ideal.div (x ix0 + y ix0) (Ideal.ofBits .f32 k) := rfl

variable (m : (ℓ : Loc nD τ sig) → Buf (Elt Ideal) ℓ) (d : Dev nD)

/-- A device's elements as flat arrays. -/
abbrev preds : S8388608.Idx → EReal := Ref.flat (argPred m d)
abbrev targs : S8388608.Idx → EReal := Ref.flat (argTarg m d)

/-- The tiles' partial sums. -/
abbrev tileSums : S512.Idx → EReal := scSums (F := Ideal) m d

theorem tile_part : ∑ x : S512.Idx, tileSums m d x
    = ∑ n ∈ Finset.range 3670016, loss (nth (argBins m d) 0) (nth (argBins m d) 10) (nth (argWts m d)) (nth (preds m d)) (nth (targs m d)) n := by
  have e : tileSums m d = outVal (preds m d) (targs m d) (padWts (argWts m d)) (padBins (argBins m d)) := by
    unfold tileSums scSums sums; rw [opP_eq, opT_eq, opW_eq, opB_eq]
  rw [e]
  exact tiles_sum (preds m d) (targs m d) (argWts m d) (argBins m d)

variable (h : Ref.Even (argBins m d) (targs m d))
include h

theorem grid_part : ∑ x : S8x128.Idx, accOut (F := Ideal) (V3 m) d x
    = ∑ n ∈ Finset.range 4718592, loss (nth (argBins m d) 0) (nth (argBins m d) 10) (nth (argWts m d)) (nth (preds m d)) (nth (targs m d)) (3670016 + n) := by
  rw [acc_sum (V3 m) d (preds m d) (targs m d) (argWts m d) (argBins m d) ((V3_v9 m d).trans (by rw [opP_eq])) ((V3_v10 m d).trans (by rw [opT_eq]))
    (V3_arg2 m d) (V3_arg3 m d)]
  refine Finset.sum_congr rfl fun n hn => ?_
  have hn := Finset.mem_range.1 hn
  exact congrArg (· * _) (chain_eq (h.inBin (3670016 + n) (by omega)) (nth (argWts m d)))

theorem outcome_at : outcome (F := Ideal) m d ix0 = Ideal.div (∑ n ∈ Finset.range 8388608,
    loss (nth (argBins m d) 0) (nth (argBins m d) 10) (nth (argWts m d)) (nth (preds m d)) (nth (targs m d)) n) (Ideal.ofBits .f32 0x4B000000#32) := by
  unfold outcome
  rw [quotient, flat_total, block_total, tile_part, grid_part m d h, sum_cut]

/-- Wherever the edges are evenly spaced for every target, the kernel's result is the reference's. -/
theorem outcome_eq : outcome (F := Ideal) m d = Ref.result (argPred m d) (argTarg m d) (argBins m d) (argWts m d) :=
  funext fun i => by
    have hi : i = ix0 := funext fun a => a.elim0
    rw [hi, outcome_at m d h]
    exact (Ref.result_at (argPred m d) (argWts m d) h).symm

end Cert.Proof.Value

end
-- ==== Proof.lean ====
/-
  The proof of `Cert.Claim` (proofs.«01_k».proof.Defs): each program's frame is its run read at its arguments and counters, and
  the algebraic claim's shared value is the kernel's result, which the reference's run reaches too.
-/
module

public import proofs.«01_k».proof.Defs
public import proofs.«01_k».proof.Proof.Kernel.Results
public import proofs.«01_k».proof.Proof.Value.Outcome

@[expose] public section

noncomputable section

namespace Cert.Proof

open Idealize.ShloMosaic Idealize.SL.Sem

attribute [local instance] Cert.Kernel.Gen.facts Cert.KernelIdeal.Gen.facts Cert.ReferenceIdeal.Gen.facts Cert.Proof.Value.Pre.facts

theorem frame_p : Cert.quiescent_Kernel := fun m g _ =>
  (θ_run Cert.Kernel.defs _ _).mono (fun _ h => ⟨fun c => (h.1 c).2, h.2⟩) (Cert.Proof.Kernel.run (F := Bits) m g)

theorem frame_pi : Cert.quiescent_KernelIdeal := fun m g _ =>
  (θ_run Cert.KernelIdeal.defs _ _).mono (fun _ h => ⟨fun c => (h.1 c).2, h.2⟩) (Cert.Proof.KernelIdeal.run (F := Ideal) m g)

theorem frame_ri : Cert.quiescent_ReferenceIdeal := fun m g _ =>
  (θ_run Cert.ReferenceIdeal.defs _ _).mono (fun r h => ⟨fun c => (h c).2, Idealize.ShloMosaic.sem_eq_zero_of_no_sems (by decide) r.2⟩)
    (Cert.ReferenceIdeal.Value.run (F := Ideal) m g)

theorem equal : Cert.algebraic_KernelIdeal_ReferenceIdeal_pre_no_target_between_edges := fun m g m' g' hpre hargs =>
  ⟨fun c => Cert.Proof.KernelIdeal.outcome (F := Ideal) m c,
    (θ_run Cert.KernelIdeal.defs _ _).mono (fun _ h => h.1) (Cert.Proof.KernelIdeal.run (F := Ideal) m g),
    (θ_run Cert.ReferenceIdeal.defs _ _).mono (fun r h c => ⟨(h c).1.trans (by
        obtain ⟨e0, e1, e2, e3⟩ := hargs c
        rw [Value.Ref.res_eq, e0, e1, e2, e3]
        exact (Value.outcome_eq m c (Value.Pre.holds _ _ _ _ fun i => congrFun (hpre c) i)).symm), (h c).2⟩)
      (Cert.ReferenceIdeal.Value.run (F := Ideal) m' g')⟩

theorem claim : Cert.Claim :=
  ⟨Cert.Kernel.Gen.facts, Cert.KernelIdeal.Gen.facts, Cert.ReferenceIdeal.Gen.facts, Cert.Proof.Value.Pre.facts,
    frame_p, frame_pi, fun m g _ => frame_pi m g trivial, frame_ri, fun m g _ => frame_ri m g trivial, trivial, equal⟩

end Cert.Proof

end
